-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S1 : Shape := ⟨1, ![1]⟩
abbrev S3x400x10000 : Shape := ⟨3, ![3, 400, 10000]⟩
abbrev S3 : Shape := ⟨1, ![3]⟩
abbrev S2x400x128 : Shape := ⟨3, ![2, 400, 128]⟩
abbrev S2 : Shape := ⟨1, ![2]⟩
abbrev S_ : Shape := ⟨0, ![]⟩
abbrev S1x400x10000 : Shape := ⟨3, ![1, 400, 10000]⟩
abbrev S400x10000 : Shape := ⟨2, ![400, 10000]⟩
abbrev S400x128 : Shape := ⟨2, ![400, 128]⟩
abbrev S1x400x128 : Shape := ⟨3, ![1, 400, 128]⟩

abbrev nBuf : Space → Nat
  | .hbm => 5
  | .vmem => 4
  | .smem => 1
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1, .f32⟩
  | .hbm, ⟨3, _⟩ => ⟨S10000x128, .f32⟩
  | .hbm, ⟨4, _⟩ => ⟨S10000x128, .f32⟩
  | .local _ .vmem, ⟨0, _⟩ => ⟨S3x400x10000, .f32⟩
  | .local _ .vmem, ⟨1, _⟩ => ⟨S10000x128, .f32⟩
  | .local _ .vmem, ⟨2, _⟩ => ⟨S2x400x128, .f32⟩
  | .local _ .vmem, ⟨3, _⟩ => ⟨S2x400x128, .f32⟩
  | .local _ .smem, ⟨0, _⟩ => ⟨S1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_scoped0 : Ref sig .tc := ⟨.vmem, 0, rfl⟩
abbrev cc0_scoped2 : Ref sig .tc := ⟨.vmem, 1, rfl⟩
abbrev cc0_scoped3 : Ref sig .tc := ⟨.vmem, 2, rfl⟩
abbrev cc0_scoped5 : Ref sig .tc := ⟨.vmem, 3, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

def k0_off1 : Fin 1 → Nat :=
  let c0_i32_19_r0 : BitVec 32 := 0#32
  let c3_i32_r0 : BitVec 32 := 3#32
  let v21_r0 : BitVec 32 := Scalar.remui c0_i32_19_r0 c3_i32_r0
  ![v21_r0.toNat]
def k0_off2 : Fin 3 → Nat :=
  let c0_i32_19_r0 : BitVec 32 := 0#32
  let c3_i32_r0 : BitVec 32 := 3#32
  let v21_r0 : BitVec 32 := Scalar.remui c0_i32_19_r0 c3_i32_r0
  let c0_i32_20_r0 : BitVec 32 := 0#32
  let c0_i32_21_r0 : BitVec 32 := 0#32
  ![v21_r0.toNat, 0, 0]
def k0_cond1 : BitVec 1 :=
  let true_27_r0 : BitVec 1 := 1#1
  let true_5_r0 : BitVec 1 := 1#1
  let c1_i32_r0 : BitVec 32 := 1#32
  let c0_i32_6_r0 : BitVec 32 := 0#32
  let v7_r0 : BitVec 32 := Scalar.select true_5_r0 c1_i32_r0 c0_i32_6_r0
  let c25_i32_r0 : BitVec 32 := 25#32
  let v8_r0 : BitVec 1 := Scalar.cmpi .eq v7_r0 c25_i32_r0
  let c0_i32_7_r0 : BitVec 32 := 0#32
  let v9_r0 : BitVec 32 := Scalar.select v8_r0 c0_i32_7_r0 v7_r0
  let c0_i32_8_r0 : BitVec 32 := 0#32
  let v10_r0 : BitVec 32 := Scalar.addi v9_r0 c0_i32_8_r0
  let c0_i32_26_r0 : BitVec 32 := 0#32
  let v28_r0 : BitVec 1 := Scalar.cmpi .ne v10_r0 c0_i32_26_r0
  let v29_r0 : BitVec 1 := Scalar.andi true_27_r0 v28_r0
  let true_28_r0 : BitVec 1 := 1#1
  let v30_r0 : BitVec 1 := Scalar.andi v29_r0 true_28_r0
  let v31_r0 : BitVec 32 := Scalar.extui v30_r0
  let c0_i32_29_r0 : BitVec 32 := 0#32
  let v32_r0 : BitVec 1 := Scalar.cmpi .ne v31_r0 c0_i32_29_r0
  v32_r0

def k0_off3 : Fin 1 → Nat :=
  let c0_i32_24_r0 : BitVec 32 := 0#32
  let c1_i32_25_r0 : BitVec 32 := 1#32
  let v27_r0 : BitVec 32 := Scalar.addi c0_i32_24_r0 c1_i32_25_r0
  let c3_i32_76_r0 : BitVec 32 := 3#32
  let v76_r0 : BitVec 32 := Scalar.remui v27_r0 c3_i32_76_r0
  ![v76_r0.toNat]
def k0_off4 : Fin 3 → Nat :=
  let c0_i32_24_r0 : BitVec 32 := 0#32
  let c1_i32_25_r0 : BitVec 32 := 1#32
  let v27_r0 : BitVec 32 := Scalar.addi c0_i32_24_r0 c1_i32_25_r0
  let c3_i32_76_r0 : BitVec 32 := 3#32
  let v76_r0 : BitVec 32 := Scalar.remui v27_r0 c3_i32_76_r0
  let c0_i32_78_r0 : BitVec 32 := 0#32
  let c0_i32_79_r0 : BitVec 32 := 0#32
  ![v76_r0.toNat, 0, 0]
def k0_off5 : Fin 2 → Nat :=
  let c400_i32_77_r0 : BitVec 32 := 400#32
  let true_5_r0 : BitVec 1 := 1#1
  let c1_i32_r0 : BitVec 32 := 1#32
  let c0_i32_6_r0 : BitVec 32 := 0#32
  let v7_r0 : BitVec 32 := Scalar.select true_5_r0 c1_i32_r0 c0_i32_6_r0
  let c25_i32_r0 : BitVec 32 := 25#32
  let v8_r0 : BitVec 1 := Scalar.cmpi .eq v7_r0 c25_i32_r0
  let c0_i32_7_r0 : BitVec 32 := 0#32
  let v9_r0 : BitVec 32 := Scalar.select v8_r0 c0_i32_7_r0 v7_r0
  let c0_i32_8_r0 : BitVec 32 := 0#32
  let v10_r0 : BitVec 32 := Scalar.addi v9_r0 c0_i32_8_r0
  let v77_r0 : BitVec 32 := Scalar.muli c400_i32_77_r0 v10_r0
  let c0_i32_80_r0 : BitVec 32 := 0#32
  ![v77_r0.toNat, 0]
@[reducible] def k0_t1_loop : Scf.Loop 32 :=
  let c0_i32_39_r0 : BitVec 32 := 0#32
  let c25_i32_40_r0 : BitVec 32 := 25#32
  let v35_r0 : BitVec 32 := Scalar.addi c0_i32_39_r0 c25_i32_40_r0
  let c1_i32_41_r0 : BitVec 32 := 1#32
  ⟨c0_i32_39_r0, v35_r0, c1_i32_41_r0⟩
def k0_off6 (arg6_r0 : BitVec 32) : Fin 1 → Nat :=
  let c3_i32_150_r0 : BitVec 32 := 3#32
  let v206_r0 : BitVec 32 := Scalar.remui arg6_r0 c3_i32_150_r0
  ![v206_r0.toNat]
def k0_cond2 (k0_t1 : Fin k0_t1_loop.trips) (arg13_r0 : BitVec 32) : BitVec 1 :=
  let true_85_r0 : BitVec 1 := 1#1
  let c1_i32_84_r0 : BitVec 32 := 1#32
  let v84_r0 : BitVec 32 := Scalar.addi arg13_r0 c1_i32_84_r0
  let v85_r0 : BitVec 32 := Scalar.select true_85_r0 v84_r0 arg13_r0
  let c25_i32_86_r0 : BitVec 32 := 25#32
  let v86_r0 : BitVec 1 := Scalar.cmpi .eq v85_r0 c25_i32_86_r0
  let c0_i32_87_r0 : BitVec 32 := 0#32
  let v87_r0 : BitVec 32 := Scalar.select v86_r0 c0_i32_87_r0 v85_r0
  let c0_i32_88_r0 : BitVec 32 := 0#32
  let v88_r0 : BitVec 32 := Scalar.addi v87_r0 c0_i32_88_r0
  let true_90_r0 : BitVec 1 := 1#1
  let c1_i32_89_r0 : BitVec 32 := 1#32
  let v89_r0 : BitVec 32 := Scalar.addi v87_r0 c1_i32_89_r0
  let v90_r0 : BitVec 32 := Scalar.select true_90_r0 v89_r0 v87_r0
  let c25_i32_91_r0 : BitVec 32 := 25#32
  let v91_r0 : BitVec 1 := Scalar.cmpi .eq v90_r0 c25_i32_91_r0
  let c0_i32_92_r0 : BitVec 32 := 0#32
  let v92_r0 : BitVec 32 := Scalar.select v91_r0 c0_i32_92_r0 v90_r0
  let c0_i32_93_r0 : BitVec 32 := 0#32
  let v93_r0 : BitVec 32 := Scalar.addi v92_r0 c0_i32_93_r0
  let v99_r0 : BitVec 1 := Scalar.cmpi .ne v88_r0 v93_r0
  let c0_i32_39_r0 : BitVec 32 := 0#32
  let c1_i32_41_r0 : BitVec 32 := 1#32
  let arg5_r0 : BitVec 32 := Scf.iv c0_i32_39_r0 c1_i32_41_r0 k0_t1
  let c23_i32_r0 : BitVec 32 := 23#32
  let v100_r0 : BitVec 1 := Scalar.cmpi .sge arg5_r0 c23_i32_r0
  let true_99_r0 : BitVec 1 := 1#1
  let v101_r0 : BitVec 1 := Scalar.xori v100_r0 true_99_r0
  let v102_r0 : BitVec 1 := Scalar.andi v99_r0 v101_r0
  let true_100_r0 : BitVec 1 := 1#1
  let v103_r0 : BitVec 1 := Scalar.andi v102_r0 true_100_r0
  let v104_r0 : BitVec 32 := Scalar.extui v103_r0
  let c0_i32_101_r0 : BitVec 32 := 0#32
  let v105_r0 : BitVec 1 := Scalar.cmpi .ne v104_r0 c0_i32_101_r0
  v105_r0

def k0_off7 (arg6_r0 : BitVec 32) : Fin 3 → Nat :=
  let c3_i32_150_r0 : BitVec 32 := 3#32
  let v206_r0 : BitVec 32 := Scalar.remui arg6_r0 c3_i32_150_r0
  let c0_i32_152_r0 : BitVec 32 := 0#32
  let c0_i32_153_r0 : BitVec 32 := 0#32
  ![v206_r0.toNat, 0, 0]
def k0_off8 (arg13_r0 : BitVec 32) : Fin 2 → Nat :=
  let c400_i32_151_r0 : BitVec 32 := 400#32
  let true_90_r0 : BitVec 1 := 1#1
  let true_85_r0 : BitVec 1 := 1#1
  let c1_i32_84_r0 : BitVec 32 := 1#32
  let v84_r0 : BitVec 32 := Scalar.addi arg13_r0 c1_i32_84_r0
  let v85_r0 : BitVec 32 := Scalar.select true_85_r0 v84_r0 arg13_r0
  let c25_i32_86_r0 : BitVec 32 := 25#32
  let v86_r0 : BitVec 1 := Scalar.cmpi .eq v85_r0 c25_i32_86_r0
  let c0_i32_87_r0 : BitVec 32 := 0#32
  let v87_r0 : BitVec 32 := Scalar.select v86_r0 c0_i32_87_r0 v85_r0
  let c1_i32_89_r0 : BitVec 32 := 1#32
  let v89_r0 : BitVec 32 := Scalar.addi v87_r0 c1_i32_89_r0
  let v90_r0 : BitVec 32 := Scalar.select true_90_r0 v89_r0 v87_r0
  let c25_i32_91_r0 : BitVec 32 := 25#32
  let v91_r0 : BitVec 1 := Scalar.cmpi .eq v90_r0 c25_i32_91_r0
  let c0_i32_92_r0 : BitVec 32 := 0#32
  let v92_r0 : BitVec 32 := Scalar.select v91_r0 c0_i32_92_r0 v90_r0
  let c0_i32_93_r0 : BitVec 32 := 0#32
  let v93_r0 : BitVec 32 := Scalar.addi v92_r0 c0_i32_93_r0
  let v207_r0 : BitVec 32 := Scalar.muli c400_i32_151_r0 v93_r0
  let c0_i32_154_r0 : BitVec 32 := 0#32
  ![v207_r0.toNat, 0]
def k0_off9 (arg7_r0 : BitVec 32) : Fin 1 → Nat :=
  let c3_i32_151_r0 : BitVec 32 := 3#32
  let v207_r0 : BitVec 32 := Scalar.remui arg7_r0 c3_i32_151_r0
  ![v207_r0.toNat]
def k0_cond3 (k0_t1 : Fin k0_t1_loop.trips) (arg13_r0 : BitVec 32) : BitVec 1 :=
  let c0_i32_78_r0 : BitVec 32 := 0#32
  let v78_r0 : BitVec 32 := Scalar.addi arg13_r0 c0_i32_78_r0
  let true_80_r0 : BitVec 1 := 1#1
  let c1_i32_79_r0 : BitVec 32 := 1#32
  let v79_r0 : BitVec 32 := Scalar.subi arg13_r0 c1_i32_79_r0
  let v80_r0 : BitVec 32 := Scalar.select true_80_r0 v79_r0 arg13_r0
  let c_m1_i32_81_r0 : BitVec 32 := 4294967295#32
  let v81_r0 : BitVec 1 := Scalar.cmpi .eq v80_r0 c_m1_i32_81_r0
  let c24_i32_82_r0 : BitVec 32 := 24#32
  let v82_r0 : BitVec 32 := Scalar.select v81_r0 c24_i32_82_r0 v80_r0
  let c0_i32_83_r0 : BitVec 32 := 0#32
  let v83_r0 : BitVec 32 := Scalar.addi v82_r0 c0_i32_83_r0
  let v117_r0 : BitVec 1 := Scalar.cmpi .ne v78_r0 v83_r0
  let c0_i32_39_r0 : BitVec 32 := 0#32
  let c1_i32_41_r0 : BitVec 32 := 1#32
  let arg5_r0 : BitVec 32 := Scf.iv c0_i32_39_r0 c1_i32_41_r0 k0_t1
  let c0_i32_76_r0 : BitVec 32 := 0#32
  let v76_r0 : BitVec 1 := Scalar.cmpi .eq arg5_r0 c0_i32_76_r0
  let v118_r0 : BitVec 1 := Scalar.ori v117_r0 v76_r0
  let c0_i32_108_r0 : BitVec 32 := 0#32
  let v119_r0 : BitVec 1 := Scalar.cmpi .sge arg5_r0 c0_i32_108_r0
  let v120_r0 : BitVec 1 := Scalar.andi v118_r0 v119_r0
  let v121_r0 : BitVec 32 := Scalar.extui v120_r0
  let c0_i32_109_r0 : BitVec 32 := 0#32
  let v122_r0 : BitVec 1 := Scalar.cmpi .ne v121_r0 c0_i32_109_r0
  v122_r0

def k0_off10 (arg7_r0 : BitVec 32) : Fin 3 → Nat :=
  let c3_i32_151_r0 : BitVec 32 := 3#32
  let v207_r0 : BitVec 32 := Scalar.remui arg7_r0 c3_i32_151_r0
  let c0_i32_152_r0 : BitVec 32 := 0#32
  let c0_i32_153_r0 : BitVec 32 := 0#32
  ![v207_r0.toNat, 0, 0]
def k0_off11 (arg13_r0 : BitVec 32) : Fin 2 → Nat :=
  let c400_i32_150_r0 : BitVec 32 := 400#32
  let c0_i32_78_r0 : BitVec 32 := 0#32
  let v78_r0 : BitVec 32 := Scalar.addi arg13_r0 c0_i32_78_r0
  let v206_r0 : BitVec 32 := Scalar.muli c400_i32_150_r0 v78_r0
  let c0_i32_154_r0 : BitVec 32 := 0#32
  ![v206_r0.toNat, 0]
def k0_off12 (arg7_r0 : BitVec 32) : Fin 3 → Nat :=
  let c3_i32_114_r0 : BitVec 32 := 3#32
  let v135_r0 : BitVec 32 := Scalar.remui arg7_r0 c3_i32_114_r0
  let v138_r0 : Index := Scalar.indexCast v135_r0
  let c0_r0 : Index := 0#32
  let c0_117_r0 : Index := 0#32
  ![v138_r0.toNat, 0, 0]

def k0_chk2 (arg7_r0 : BitVec 32) : Prop :=
  (∀ a, (k0_off12 arg7_r0) a + S1x400x10000.size a ≤ S3x400x10000.size a)
theorem k0_off12_inb : ∀ (arg7_r0 : BitVec 32) (k0_hw2 : k0_chk2 arg7_r0), ∀ a, (k0_off12 arg7_r0) a + S1x400x10000.size a ≤ S3x400x10000.size a := fun arg7_r0 k0_hw2 => k0_hw2

def k0_off13 (arg9_r0 : BitVec 32) : Fin 3 → Nat :=
  let c2_i32_115_r0 : BitVec 32 := 2#32
  let v136_r0 : BitVec 32 := Scalar.remui arg9_r0 c2_i32_115_r0
  let v143_r0 : Index := Scalar.indexCast v136_r0
  let c0_120_r0 : Index := 0#32
  let c0_121_r0 : Index := 0#32
  ![v143_r0.toNat, 0, 0]

def k0_chk3 (arg9_r0 : BitVec 32) : Prop :=
  (∀ a, (k0_off13 arg9_r0) a + S1x400x128.size a ≤ S2x400x128.size a)
theorem k0_off13_inb : ∀ (arg9_r0 : BitVec 32) (k0_hw3 : k0_chk3 arg9_r0), ∀ a, (k0_off13 arg9_r0) a + S1x400x128.size a ≤ S2x400x128.size a := fun arg9_r0 k0_hw3 => k0_hw3

def k0_off14 (arg11_r0 : BitVec 32) : Fin 3 → Nat :=
  let c2_i32_116_r0 : BitVec 32 := 2#32
  let v137_r0 : BitVec 32 := Scalar.remui arg11_r0 c2_i32_116_r0
  let v150_r0 : Index := Scalar.indexCast v137_r0
  let c0_123_r0 : Index := 0#32
  let c0_124_r0 : Index := 0#32
  ![v150_r0.toNat, 0, 0]

def k0_chk4 (arg11_r0 : BitVec 32) : Prop :=
  (∀ a, (k0_off14 arg11_r0) a + S1x400x128.size a ≤ S2x400x128.size a)
theorem k0_off14_inb : ∀ (arg11_r0 : BitVec 32) (k0_hw4 : k0_chk4 arg11_r0), ∀ a, (k0_off14 arg11_r0) a + S1x400x128.size a ≤ S2x400x128.size a := fun arg11_r0 k0_hw4 => k0_hw4

def k0_off15 (arg9_r0 : BitVec 32) : Fin 1 → Nat :=
  let c2_i32_150_r0 : BitVec 32 := 2#32
  let v206_r0 : BitVec 32 := Scalar.remui arg9_r0 c2_i32_150_r0
  ![v206_r0.toNat]
def k0_cond7 (k0_t1 : Fin k0_t1_loop.trips) (arg13_r0 : BitVec 32) : BitVec 1 :=
  let c0_i32_78_r0 : BitVec 32 := 0#32
  let v78_r0 : BitVec 32 := Scalar.addi arg13_r0 c0_i32_78_r0
  let true_85_r0 : BitVec 1 := 1#1
  let c1_i32_84_r0 : BitVec 32 := 1#32
  let v84_r0 : BitVec 32 := Scalar.addi arg13_r0 c1_i32_84_r0
  let v85_r0 : BitVec 32 := Scalar.select true_85_r0 v84_r0 arg13_r0
  let c25_i32_86_r0 : BitVec 32 := 25#32
  let v86_r0 : BitVec 1 := Scalar.cmpi .eq v85_r0 c25_i32_86_r0
  let c0_i32_87_r0 : BitVec 32 := 0#32
  let v87_r0 : BitVec 32 := Scalar.select v86_r0 c0_i32_87_r0 v85_r0
  let c0_i32_88_r0 : BitVec 32 := 0#32
  let v88_r0 : BitVec 32 := Scalar.addi v87_r0 c0_i32_88_r0
  let v159_r0 : BitVec 1 := Scalar.cmpi .ne v78_r0 v88_r0
  let c0_i32_39_r0 : BitVec 32 := 0#32
  let c1_i32_41_r0 : BitVec 32 := 1#32
  let arg5_r0 : BitVec 32 := Scf.iv c0_i32_39_r0 c1_i32_41_r0 k0_t1
  let c24_i32_77_r0 : BitVec 32 := 24#32
  let v77_r0 : BitVec 1 := Scalar.cmpi .eq arg5_r0 c24_i32_77_r0
  let v160_r0 : BitVec 1 := Scalar.ori v159_r0 v77_r0
  let v161_r0 : BitVec 32 := Scalar.extui v160_r0
  let c0_i32_126_r0 : BitVec 32 := 0#32
  let v162_r0 : BitVec 1 := Scalar.cmpi .ne v161_r0 c0_i32_126_r0
  v162_r0

def k0_off16 (arg13_r0 : BitVec 32) : Fin 2 → Nat :=
  let c400_i32_151_r0 : BitVec 32 := 400#32
  let c0_i32_78_r0 : BitVec 32 := 0#32
  let v78_r0 : BitVec 32 := Scalar.addi arg13_r0 c0_i32_78_r0
  let v207_r0 : BitVec 32 := Scalar.muli c400_i32_151_r0 v78_r0
  let c0_i32_152_r0 : BitVec 32 := 0#32
  ![v207_r0.toNat, 0]
def k0_off17 (arg9_r0 : BitVec 32) : Fin 3 → Nat :=
  let c2_i32_150_r0 : BitVec 32 := 2#32
  let v206_r0 : BitVec 32 := Scalar.remui arg9_r0 c2_i32_150_r0
  let c0_i32_153_r0 : BitVec 32 := 0#32
  let c0_i32_154_r0 : BitVec 32 := 0#32
  ![v206_r0.toNat, 0, 0]
def k0_off18 (arg11_r0 : BitVec 32) : Fin 1 → Nat :=
  let c2_i32_150_r0 : BitVec 32 := 2#32
  let v206_r0 : BitVec 32 := Scalar.remui arg11_r0 c2_i32_150_r0
  ![v206_r0.toNat]
def k0_cond8 (k0_t1 : Fin k0_t1_loop.trips) (arg13_r0 : BitVec 32) : BitVec 1 :=
  let c0_i32_78_r0 : BitVec 32 := 0#32
  let v78_r0 : BitVec 32 := Scalar.addi arg13_r0 c0_i32_78_r0
  let true_85_r0 : BitVec 1 := 1#1
  let c1_i32_84_r0 : BitVec 32 := 1#32
  let v84_r0 : BitVec 32 := Scalar.addi arg13_r0 c1_i32_84_r0
  let v85_r0 : BitVec 32 := Scalar.select true_85_r0 v84_r0 arg13_r0
  let c25_i32_86_r0 : BitVec 32 := 25#32
  let v86_r0 : BitVec 1 := Scalar.cmpi .eq v85_r0 c25_i32_86_r0
  let c0_i32_87_r0 : BitVec 32 := 0#32
  let v87_r0 : BitVec 32 := Scalar.select v86_r0 c0_i32_87_r0 v85_r0
  let c0_i32_88_r0 : BitVec 32 := 0#32
  let v88_r0 : BitVec 32 := Scalar.addi v87_r0 c0_i32_88_r0
  let v166_r0 : BitVec 1 := Scalar.cmpi .ne v78_r0 v88_r0
  let c0_i32_39_r0 : BitVec 32 := 0#32
  let c1_i32_41_r0 : BitVec 32 := 1#32
  let arg5_r0 : BitVec 32 := Scf.iv c0_i32_39_r0 c1_i32_41_r0 k0_t1
  let c24_i32_77_r0 : BitVec 32 := 24#32
  let v77_r0 : BitVec 1 := Scalar.cmpi .eq arg5_r0 c24_i32_77_r0
  let v167_r0 : BitVec 1 := Scalar.ori v166_r0 v77_r0
  let v168_r0 : BitVec 32 := Scalar.extui v167_r0
  let c0_i32_129_r0 : BitVec 32 := 0#32
  let v169_r0 : BitVec 1 := Scalar.cmpi .ne v168_r0 c0_i32_129_r0
  v169_r0

def k0_off19 (arg13_r0 : BitVec 32) : Fin 2 → Nat :=
  let c400_i32_151_r0 : BitVec 32 := 400#32
  let c0_i32_78_r0 : BitVec 32 := 0#32
  let v78_r0 : BitVec 32 := Scalar.addi arg13_r0 c0_i32_78_r0
  let v207_r0 : BitVec 32 := Scalar.muli c400_i32_151_r0 v78_r0
  let c0_i32_152_r0 : BitVec 32 := 0#32
  ![v207_r0.toNat, 0]
def k0_off20 (arg11_r0 : BitVec 32) : Fin 3 → Nat :=
  let c2_i32_150_r0 : BitVec 32 := 2#32
  let v206_r0 : BitVec 32 := Scalar.remui arg11_r0 c2_i32_150_r0
  let c0_i32_153_r0 : BitVec 32 := 0#32
  let c0_i32_154_r0 : BitVec 32 := 0#32
  ![v206_r0.toNat, 0, 0]
def k0_off21 (arg10_r0 : BitVec 32) : Fin 1 → Nat :=
  let c2_i32_150_r0 : BitVec 32 := 2#32
  let v206_r0 : BitVec 32 := Scalar.remui arg10_r0 c2_i32_150_r0
  ![v206_r0.toNat]
def k0_cond10 (k0_t1 : Fin k0_t1_loop.trips) (arg13_r0 : BitVec 32) : BitVec 1 :=
  let c0_i32_78_r0 : BitVec 32 := 0#32
  let v78_r0 : BitVec 32 := Scalar.addi arg13_r0 c0_i32_78_r0
  let true_80_r0 : BitVec 1 := 1#1
  let c1_i32_79_r0 : BitVec 32 := 1#32
  let v79_r0 : BitVec 32 := Scalar.subi arg13_r0 c1_i32_79_r0
  let v80_r0 : BitVec 32 := Scalar.select true_80_r0 v79_r0 arg13_r0
  let c_m1_i32_81_r0 : BitVec 32 := 4294967295#32
  let v81_r0 : BitVec 1 := Scalar.cmpi .eq v80_r0 c_m1_i32_81_r0
  let c24_i32_82_r0 : BitVec 32 := 24#32
  let v82_r0 : BitVec 32 := Scalar.select v81_r0 c24_i32_82_r0 v80_r0
  let c0_i32_83_r0 : BitVec 32 := 0#32
  let v83_r0 : BitVec 32 := Scalar.addi v82_r0 c0_i32_83_r0
  let v179_r0 : BitVec 1 := Scalar.cmpi .ne v78_r0 v83_r0
  let c0_i32_39_r0 : BitVec 32 := 0#32
  let c1_i32_41_r0 : BitVec 32 := 1#32
  let arg5_r0 : BitVec 32 := Scf.iv c0_i32_39_r0 c1_i32_41_r0 k0_t1
  let c0_i32_76_r0 : BitVec 32 := 0#32
  let v76_r0 : BitVec 1 := Scalar.cmpi .eq arg5_r0 c0_i32_76_r0
  let true_135_r0 : BitVec 1 := 1#1
  let v180_r0 : BitVec 1 := Scalar.xori v76_r0 true_135_r0
  let v181_r0 : BitVec 1 := Scalar.andi v179_r0 v180_r0
  let v182_r0 : BitVec 32 := Scalar.extui v181_r0
  let c0_i32_136_r0 : BitVec 32 := 0#32
  let v183_r0 : BitVec 1 := Scalar.cmpi .ne v182_r0 c0_i32_136_r0
  v183_r0

def k0_off22 (arg13_r0 : BitVec 32) : Fin 2 → Nat :=
  let c400_i32_151_r0 : BitVec 32 := 400#32
  let true_80_r0 : BitVec 1 := 1#1
  let c1_i32_79_r0 : BitVec 32 := 1#32
  let v79_r0 : BitVec 32 := Scalar.subi arg13_r0 c1_i32_79_r0
  let v80_r0 : BitVec 32 := Scalar.select true_80_r0 v79_r0 arg13_r0
  let c_m1_i32_81_r0 : BitVec 32 := 4294967295#32
  let v81_r0 : BitVec 1 := Scalar.cmpi .eq v80_r0 c_m1_i32_81_r0
  let c24_i32_82_r0 : BitVec 32 := 24#32
  let v82_r0 : BitVec 32 := Scalar.select v81_r0 c24_i32_82_r0 v80_r0
  let c0_i32_83_r0 : BitVec 32 := 0#32
  let v83_r0 : BitVec 32 := Scalar.addi v82_r0 c0_i32_83_r0
  let v207_r0 : BitVec 32 := Scalar.muli c400_i32_151_r0 v83_r0
  let c0_i32_152_r0 : BitVec 32 := 0#32
  ![v207_r0.toNat, 0]
def k0_off23 (arg10_r0 : BitVec 32) : Fin 3 → Nat :=
  let c2_i32_150_r0 : BitVec 32 := 2#32
  let v206_r0 : BitVec 32 := Scalar.remui arg10_r0 c2_i32_150_r0
  let c0_i32_153_r0 : BitVec 32 := 0#32
  let c0_i32_154_r0 : BitVec 32 := 0#32
  ![v206_r0.toNat, 0, 0]
def k0_off24 (arg12_r0 : BitVec 32) : Fin 1 → Nat :=
  let c2_i32_150_r0 : BitVec 32 := 2#32
  let v206_r0 : BitVec 32 := Scalar.remui arg12_r0 c2_i32_150_r0
  ![v206_r0.toNat]
def k0_cond11 (k0_t1 : Fin k0_t1_loop.trips) (arg13_r0 : BitVec 32) : BitVec 1 :=
  let c0_i32_78_r0 : BitVec 32 := 0#32
  let v78_r0 : BitVec 32 := Scalar.addi arg13_r0 c0_i32_78_r0
  let true_80_r0 : BitVec 1 := 1#1
  let c1_i32_79_r0 : BitVec 32 := 1#32
  let v79_r0 : BitVec 32 := Scalar.subi arg13_r0 c1_i32_79_r0
  let v80_r0 : BitVec 32 := Scalar.select true_80_r0 v79_r0 arg13_r0
  let c_m1_i32_81_r0 : BitVec 32 := 4294967295#32
  let v81_r0 : BitVec 1 := Scalar.cmpi .eq v80_r0 c_m1_i32_81_r0
  let c24_i32_82_r0 : BitVec 32 := 24#32
  let v82_r0 : BitVec 32 := Scalar.select v81_r0 c24_i32_82_r0 v80_r0
  let c0_i32_83_r0 : BitVec 32 := 0#32
  let v83_r0 : BitVec 32 := Scalar.addi v82_r0 c0_i32_83_r0
  let v187_r0 : BitVec 1 := Scalar.cmpi .ne v78_r0 v83_r0
  let c0_i32_39_r0 : BitVec 32 := 0#32
  let c1_i32_41_r0 : BitVec 32 := 1#32
  let arg5_r0 : BitVec 32 := Scf.iv c0_i32_39_r0 c1_i32_41_r0 k0_t1
  let c0_i32_76_r0 : BitVec 32 := 0#32
  let v76_r0 : BitVec 1 := Scalar.cmpi .eq arg5_r0 c0_i32_76_r0
  let true_139_r0 : BitVec 1 := 1#1
  let v188_r0 : BitVec 1 := Scalar.xori v76_r0 true_139_r0
  let v189_r0 : BitVec 1 := Scalar.andi v187_r0 v188_r0
  let v190_r0 : BitVec 32 := Scalar.extui v189_r0
  let c0_i32_140_r0 : BitVec 32 := 0#32
  let v191_r0 : BitVec 1 := Scalar.cmpi .ne v190_r0 c0_i32_140_r0
  v191_r0

def k0_off25 (arg13_r0 : BitVec 32) : Fin 2 → Nat :=
  let c400_i32_151_r0 : BitVec 32 := 400#32
  let true_80_r0 : BitVec 1 := 1#1
  let c1_i32_79_r0 : BitVec 32 := 1#32
  let v79_r0 : BitVec 32 := Scalar.subi arg13_r0 c1_i32_79_r0
  let v80_r0 : BitVec 32 := Scalar.select true_80_r0 v79_r0 arg13_r0
  let c_m1_i32_81_r0 : BitVec 32 := 4294967295#32
  let v81_r0 : BitVec 1 := Scalar.cmpi .eq v80_r0 c_m1_i32_81_r0
  let c24_i32_82_r0 : BitVec 32 := 24#32
  let v82_r0 : BitVec 32 := Scalar.select v81_r0 c24_i32_82_r0 v80_r0
  let c0_i32_83_r0 : BitVec 32 := 0#32
  let v83_r0 : BitVec 32 := Scalar.addi v82_r0 c0_i32_83_r0
  let v207_r0 : BitVec 32 := Scalar.muli c400_i32_151_r0 v83_r0
  let c0_i32_152_r0 : BitVec 32 := 0#32
  ![v207_r0.toNat, 0]
def k0_off26 (arg12_r0 : BitVec 32) : Fin 3 → Nat :=
  let c2_i32_150_r0 : BitVec 32 := 2#32
  let v206_r0 : BitVec 32 := Scalar.remui arg12_r0 c2_i32_150_r0
  let c0_i32_153_r0 : BitVec 32 := 0#32
  let c0_i32_154_r0 : BitVec 32 := 0#32
  ![v206_r0.toNat, 0, 0]

def k0_chk1 (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) : Prop :=
  (∀ (k0_h2 : k0_cond2 k0_t1 arg13_r0 = 1#1), ∀ a, (k0_off6 arg6_r0) a + S1.size a ≤ S3.size a) ∧
  (∀ (k0_h2 : k0_cond2 k0_t1 arg13_r0 = 1#1), ∀ a, (k0_off7 arg6_r0) a + S1x400x10000.size a ≤ S3x400x10000.size a) ∧
  (∀ (k0_h2 : k0_cond2 k0_t1 arg13_r0 = 1#1), ∀ a, (k0_off8 arg13_r0) a + S400x10000.size a ≤ S10000x10000.size a) ∧
  (∀ (k0_h3 : k0_cond3 k0_t1 arg13_r0 = 1#1), ∀ a, (k0_off9 arg7_r0) a + S1.size a ≤ S3.size a) ∧
  (∀ (k0_h3 : k0_cond3 k0_t1 arg13_r0 = 1#1), ∀ a, (k0_off10 arg7_r0) a + S1x400x10000.size a ≤ S3x400x10000.size a) ∧
  (∀ (k0_h3 : k0_cond3 k0_t1 arg13_r0 = 1#1), ∀ a, (k0_off11 arg13_r0) a + S400x10000.size a ≤ S10000x10000.size a) ∧
  (∀ (k0_h7 : k0_cond7 k0_t1 arg13_r0 = 1#1), ∀ a, (k0_off15 arg9_r0) a + S1.size a ≤ S2.size a) ∧
  (∀ (k0_h7 : k0_cond7 k0_t1 arg13_r0 = 1#1), ∀ a, (k0_off16 arg13_r0) a + S400x128.size a ≤ S10000x128.size a) ∧
  (∀ (k0_h7 : k0_cond7 k0_t1 arg13_r0 = 1#1), ∀ a, (k0_off17 arg9_r0) a + S1x400x128.size a ≤ S2x400x128.size a) ∧
  (∀ (k0_h8 : k0_cond8 k0_t1 arg13_r0 = 1#1), ∀ a, (k0_off18 arg11_r0) a + S1.size a ≤ S2.size a) ∧
  (∀ (k0_h8 : k0_cond8 k0_t1 arg13_r0 = 1#1), ∀ a, (k0_off19 arg13_r0) a + S400x128.size a ≤ S10000x128.size a) ∧
  (∀ (k0_h8 : k0_cond8 k0_t1 arg13_r0 = 1#1), ∀ a, (k0_off20 arg11_r0) a + S1x400x128.size a ≤ S2x400x128.size a) ∧
  (∀ (k0_h10 : k0_cond10 k0_t1 arg13_r0 = 1#1), ∀ a, (k0_off21 arg10_r0) a + S1.size a ≤ S2.size a) ∧
  (∀ (k0_h10 : k0_cond10 k0_t1 arg13_r0 = 1#1), ∀ a, (k0_off22 arg13_r0) a + S400x128.size a ≤ S10000x128.size a) ∧
  (∀ (k0_h10 : k0_cond10 k0_t1 arg13_r0 = 1#1), ∀ a, (k0_off23 arg10_r0) a + S1x400x128.size a ≤ S2x400x128.size a) ∧
  (∀ (k0_h11 : k0_cond11 k0_t1 arg13_r0 = 1#1), ∀ a, (k0_off24 arg12_r0) a + S1.size a ≤ S2.size a) ∧
  (∀ (k0_h11 : k0_cond11 k0_t1 arg13_r0 = 1#1), ∀ a, (k0_off25 arg13_r0) a + S400x128.size a ≤ S10000x128.size a) ∧
  (∀ (k0_h11 : k0_cond11 k0_t1 arg13_r0 = 1#1), ∀ a, (k0_off26 arg12_r0) a + S1x400x128.size a ≤ S2x400x128.size a)
theorem k0_off6_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h2 : k0_cond2 k0_t1 arg13_r0 = 1#1), ∀ a, (k0_off6 arg6_r0) a + S1.size a ≤ S3.size a := fun k0_t1 arg6_r0 arg7_r0 arg9_r0 arg10_r0 arg11_r0 arg12_r0 arg13_r0 k0_hw1 k0_h2 => k0_hw1.1 k0_h2
theorem k0_off7_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h2 : k0_cond2 k0_t1 arg13_r0 = 1#1), ∀ a, (k0_off7 arg6_r0) a + S1x400x10000.size a ≤ S3x400x10000.size a := fun k0_t1 arg6_r0 arg7_r0 arg9_r0 arg10_r0 arg11_r0 arg12_r0 arg13_r0 k0_hw1 k0_h2 => k0_hw1.2.1 k0_h2
theorem k0_off8_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h2 : k0_cond2 k0_t1 arg13_r0 = 1#1), ∀ a, (k0_off8 arg13_r0) a + S400x10000.size a ≤ S10000x10000.size a := fun k0_t1 arg6_r0 arg7_r0 arg9_r0 arg10_r0 arg11_r0 arg12_r0 arg13_r0 k0_hw1 k0_h2 => k0_hw1.2.2.1 k0_h2
theorem k0_off9_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h3 : k0_cond3 k0_t1 arg13_r0 = 1#1), ∀ a, (k0_off9 arg7_r0) a + S1.size a ≤ S3.size a := fun k0_t1 arg6_r0 arg7_r0 arg9_r0 arg10_r0 arg11_r0 arg12_r0 arg13_r0 k0_hw1 k0_h3 => k0_hw1.2.2.2.1 k0_h3
theorem k0_off10_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h3 : k0_cond3 k0_t1 arg13_r0 = 1#1), ∀ a, (k0_off10 arg7_r0) a + S1x400x10000.size a ≤ S3x400x10000.size a := fun k0_t1 arg6_r0 arg7_r0 arg9_r0 arg10_r0 arg11_r0 arg12_r0 arg13_r0 k0_hw1 k0_h3 => k0_hw1.2.2.2.2.1 k0_h3
theorem k0_off11_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h3 : k0_cond3 k0_t1 arg13_r0 = 1#1), ∀ a, (k0_off11 arg13_r0) a + S400x10000.size a ≤ S10000x10000.size a := fun k0_t1 arg6_r0 arg7_r0 arg9_r0 arg10_r0 arg11_r0 arg12_r0 arg13_r0 k0_hw1 k0_h3 => k0_hw1.2.2.2.2.2.1 k0_h3
theorem k0_off15_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h7 : k0_cond7 k0_t1 arg13_r0 = 1#1), ∀ a, (k0_off15 arg9_r0) a + S1.size a ≤ S2.size a := fun k0_t1 arg6_r0 arg7_r0 arg9_r0 arg10_r0 arg11_r0 arg12_r0 arg13_r0 k0_hw1 k0_h7 => k0_hw1.2.2.2.2.2.2.1 k0_h7
theorem k0_off16_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h7 : k0_cond7 k0_t1 arg13_r0 = 1#1), ∀ a, (k0_off16 arg13_r0) a + S400x128.size a ≤ S10000x128.size a := fun k0_t1 arg6_r0 arg7_r0 arg9_r0 arg10_r0 arg11_r0 arg12_r0 arg13_r0 k0_hw1 k0_h7 => k0_hw1.2.2.2.2.2.2.2.1 k0_h7
theorem k0_off17_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h7 : k0_cond7 k0_t1 arg13_r0 = 1#1), ∀ a, (k0_off17 arg9_r0) a + S1x400x128.size a ≤ S2x400x128.size a := fun k0_t1 arg6_r0 arg7_r0 arg9_r0 arg10_r0 arg11_r0 arg12_r0 arg13_r0 k0_hw1 k0_h7 => k0_hw1.2.2.2.2.2.2.2.2.1 k0_h7
theorem k0_off18_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h8 : k0_cond8 k0_t1 arg13_r0 = 1#1), ∀ a, (k0_off18 arg11_r0) a + S1.size a ≤ S2.size a := fun k0_t1 arg6_r0 arg7_r0 arg9_r0 arg10_r0 arg11_r0 arg12_r0 arg13_r0 k0_hw1 k0_h8 => k0_hw1.2.2.2.2.2.2.2.2.2.1 k0_h8
theorem k0_off19_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h8 : k0_cond8 k0_t1 arg13_r0 = 1#1), ∀ a, (k0_off19 arg13_r0) a + S400x128.size a ≤ S10000x128.size a := fun k0_t1 arg6_r0 arg7_r0 arg9_r0 arg10_r0 arg11_r0 arg12_r0 arg13_r0 k0_hw1 k0_h8 => k0_hw1.2.2.2.2.2.2.2.2.2.2.1 k0_h8
theorem k0_off20_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h8 : k0_cond8 k0_t1 arg13_r0 = 1#1), ∀ a, (k0_off20 arg11_r0) a + S1x400x128.size a ≤ S2x400x128.size a := fun k0_t1 arg6_r0 arg7_r0 arg9_r0 arg10_r0 arg11_r0 arg12_r0 arg13_r0 k0_hw1 k0_h8 => k0_hw1.2.2.2.2.2.2.2.2.2.2.2.1 k0_h8
theorem k0_off21_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h10 : k0_cond10 k0_t1 arg13_r0 = 1#1), ∀ a, (k0_off21 arg10_r0) a + S1.size a ≤ S2.size a := fun k0_t1 arg6_r0 arg7_r0 arg9_r0 arg10_r0 arg11_r0 arg12_r0 arg13_r0 k0_hw1 k0_h10 => k0_hw1.2.2.2.2.2.2.2.2.2.2.2.2.1 k0_h10
theorem k0_off22_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h10 : k0_cond10 k0_t1 arg13_r0 = 1#1), ∀ a, (k0_off22 arg13_r0) a + S400x128.size a ≤ S10000x128.size a := fun k0_t1 arg6_r0 arg7_r0 arg9_r0 arg10_r0 arg11_r0 arg12_r0 arg13_r0 k0_hw1 k0_h10 => k0_hw1.2.2.2.2.2.2.2.2.2.2.2.2.2.1 k0_h10
theorem k0_off23_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h10 : k0_cond10 k0_t1 arg13_r0 = 1#1), ∀ a, (k0_off23 arg10_r0) a + S1x400x128.size a ≤ S2x400x128.size a := fun k0_t1 arg6_r0 arg7_r0 arg9_r0 arg10_r0 arg11_r0 arg12_r0 arg13_r0 k0_hw1 k0_h10 => k0_hw1.2.2.2.2.2.2.2.2.2.2.2.2.2.2.1 k0_h10
theorem k0_off24_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h11 : k0_cond11 k0_t1 arg13_r0 = 1#1), ∀ a, (k0_off24 arg12_r0) a + S1.size a ≤ S2.size a := fun k0_t1 arg6_r0 arg7_r0 arg9_r0 arg10_r0 arg11_r0 arg12_r0 arg13_r0 k0_hw1 k0_h11 => k0_hw1.2.2.2.2.2.2.2.2.2.2.2.2.2.2.2.1 k0_h11
theorem k0_off25_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h11 : k0_cond11 k0_t1 arg13_r0 = 1#1), ∀ a, (k0_off25 arg13_r0) a + S400x128.size a ≤ S10000x128.size a := fun k0_t1 arg6_r0 arg7_r0 arg9_r0 arg10_r0 arg11_r0 arg12_r0 arg13_r0 k0_hw1 k0_h11 => k0_hw1.2.2.2.2.2.2.2.2.2.2.2.2.2.2.2.2.1 k0_h11
theorem k0_off26_inb : ∀ (k0_t1 : Fin k0_t1_loop.trips) (arg6_r0 : BitVec 32) (arg7_r0 : BitVec 32) (arg9_r0 : BitVec 32) (arg10_r0 : BitVec 32) (arg11_r0 : BitVec 32) (arg12_r0 : BitVec 32) (arg13_r0 : BitVec 32) (k0_hw1 : k0_chk1 k0_t1 arg6_r0 arg7_r0 arg9_r0 arg10_r0 arg11_r0 arg12_r0 arg13_r0), ∀ (k0_h11 : k0_cond11 k0_t1 arg13_r0 = 1#1), ∀ a, (k0_off26 arg12_r0) a + S1x400x128.size a ≤ S2x400x128.size a := fun k0_t1 arg6_r0 arg7_r0 arg9_r0 arg10_r0 arg11_r0 arg12_r0 arg13_r0 k0_hw1 k0_h11 => k0_hw1.2.2.2.2.2.2.2.2.2.2.2.2.2.2.2.2.2 k0_h11

def k0_off27 (v36_4_r0 : BitVec 32) : Fin 1 → Nat :=
  let c2_i32_r0 : BitVec 32 := 2#32
  let v62_r0 : BitVec 32 := Scalar.remui v36_4_r0 c2_i32_r0
  ![v62_r0.toNat]

def k0_off28 (v36_7_r0 : BitVec 32) : Fin 2 → Nat :=
  let c400_i32_r0 : BitVec 32 := 400#32
  let true_44_r0 : BitVec 1 := 1#1
  let c1_i32_43_r0 : BitVec 32 := 1#32
  let v37_r0 : BitVec 32 := Scalar.subi v36_7_r0 c1_i32_43_r0
  let v38_r0 : BitVec 32 := Scalar.select true_44_r0 v37_r0 v36_7_r0
  let c_m1_i32_45_r0 : BitVec 32 := 4294967295#32
  let v39_r0 : BitVec 1 := Scalar.cmpi .eq v38_r0 c_m1_i32_45_r0
  let c24_i32_46_r0 : BitVec 32 := 24#32
  let v40_r0 : BitVec 32 := Scalar.select v39_r0 c24_i32_46_r0 v38_r0
  let c0_i32_47_r0 : BitVec 32 := 0#32
  let v41_r0 : BitVec 32 := Scalar.addi v40_r0 c0_i32_47_r0
  let v63_r0 : BitVec 32 := Scalar.muli c400_i32_r0 v41_r0
  let c0_i32_68_r0 : BitVec 32 := 0#32
  ![v63_r0.toNat, 0]

def k0_off29 (v36_4_r0 : BitVec 32) : Fin 3 → Nat :=
  let c2_i32_r0 : BitVec 32 := 2#32
  let v62_r0 : BitVec 32 := Scalar.remui v36_4_r0 c2_i32_r0
  let c0_i32_69_r0 : BitVec 32 := 0#32
  let c0_i32_70_r0 : BitVec 32 := 0#32
  ![v62_r0.toNat, 0, 0]

def k0_chk5 (v36_4_r0 : BitVec 32) : Prop :=
  (∀ a, (k0_off27 v36_4_r0) a + S1.size a ≤ S2.size a) ∧
  (∀ a, (k0_off29 v36_4_r0) a + S1x400x128.size a ≤ S2x400x128.size a)
theorem k0_off27_inb : ∀ (v36_4_r0 : BitVec 32) (k0_hw5 : k0_chk5 v36_4_r0), ∀ a, (k0_off27 v36_4_r0) a + S1.size a ≤ S2.size a := fun v36_4_r0 k0_hw5 => k0_hw5.1
theorem k0_off29_inb : ∀ (v36_4_r0 : BitVec 32) (k0_hw5 : k0_chk5 v36_4_r0), ∀ a, (k0_off29 v36_4_r0) a + S1x400x128.size a ≤ S2x400x128.size a := fun v36_4_r0 k0_hw5 => k0_hw5.2

def k0_off30 (v36_6_r0 : BitVec 32) : Fin 1 → Nat :=
  let c2_i32_71_r0 : BitVec 32 := 2#32
  let v69_r0 : BitVec 32 := Scalar.remui v36_6_r0 c2_i32_71_r0
  ![v69_r0.toNat]

def k0_off31 (v36_7_r0 : BitVec 32) : Fin 2 → Nat :=
  let c400_i32_72_r0 : BitVec 32 := 400#32
  let true_44_r0 : BitVec 1 := 1#1
  let c1_i32_43_r0 : BitVec 32 := 1#32
  let v37_r0 : BitVec 32 := Scalar.subi v36_7_r0 c1_i32_43_r0
  let v38_r0 : BitVec 32 := Scalar.select true_44_r0 v37_r0 v36_7_r0
  let c_m1_i32_45_r0 : BitVec 32 := 4294967295#32
  let v39_r0 : BitVec 1 := Scalar.cmpi .eq v38_r0 c_m1_i32_45_r0
  let c24_i32_46_r0 : BitVec 32 := 24#32
  let v40_r0 : BitVec 32 := Scalar.select v39_r0 c24_i32_46_r0 v38_r0
  let c0_i32_47_r0 : BitVec 32 := 0#32
  let v41_r0 : BitVec 32 := Scalar.addi v40_r0 c0_i32_47_r0
  let v70_r0 : BitVec 32 := Scalar.muli c400_i32_72_r0 v41_r0
  let c0_i32_73_r0 : BitVec 32 := 0#32
  ![v70_r0.toNat, 0]

def k0_chk6 (v36_7_r0 : BitVec 32) : Prop :=
  (∀ a, (k0_off28 v36_7_r0) a + S400x128.size a ≤ S10000x128.size a) ∧
  (∀ a, (k0_off31 v36_7_r0) a + S400x128.size a ≤ S10000x128.size a)
theorem k0_off28_inb : ∀ (v36_7_r0 : BitVec 32) (k0_hw6 : k0_chk6 v36_7_r0), ∀ a, (k0_off28 v36_7_r0) a + S400x128.size a ≤ S10000x128.size a := fun v36_7_r0 k0_hw6 => k0_hw6.1
theorem k0_off31_inb : ∀ (v36_7_r0 : BitVec 32) (k0_hw6 : k0_chk6 v36_7_r0), ∀ a, (k0_off31 v36_7_r0) a + S400x128.size a ≤ S10000x128.size a := fun v36_7_r0 k0_hw6 => k0_hw6.2

def k0_off32 (v36_6_r0 : BitVec 32) : Fin 3 → Nat :=
  let c2_i32_71_r0 : BitVec 32 := 2#32
  let v69_r0 : BitVec 32 := Scalar.remui v36_6_r0 c2_i32_71_r0
  let c0_i32_74_r0 : BitVec 32 := 0#32
  let c0_i32_75_r0 : BitVec 32 := 0#32
  ![v69_r0.toNat, 0, 0]

def k0_chk7 (v36_6_r0 : BitVec 32) : Prop :=
  (∀ a, (k0_off30 v36_6_r0) a + S1.size a ≤ S2.size a) ∧
  (∀ a, (k0_off32 v36_6_r0) a + S1x400x128.size a ≤ S2x400x128.size a)
theorem k0_off30_inb : ∀ (v36_6_r0 : BitVec 32) (k0_hw7 : k0_chk7 v36_6_r0), ∀ a, (k0_off30 v36_6_r0) a + S1.size a ≤ S2.size a := fun v36_6_r0 k0_hw7 => k0_hw7.1
theorem k0_off32_inb : ∀ (v36_6_r0 : BitVec 32) (k0_hw7 : k0_chk7 v36_6_r0), ∀ a, (k0_off32 v36_6_r0) a + S1x400x128.size a ≤ S2x400x128.size a := fun v36_6_r0 k0_hw7 => k0_hw7.2

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S10000x128 : Shape := ⟨2, ![10000, 128]⟩
abbrev S10000x10000 : Shape := ⟨2, ![10000, 10000]⟩
abbrev S1 : Shape := ⟨1, ![1]⟩
abbrev S1x1 : Shape := ⟨2, ![1, 1]⟩

abbrev nBuf : Space → Nat
  | .hbm => 7
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1, .f32⟩
  | .hbm, ⟨3, _⟩ => ⟨S10000x128, .f32⟩
  | .hbm, ⟨4, _⟩ => ⟨S1x1, .f32⟩
  | .hbm, ⟨5, _⟩ => ⟨S10000x128, .f32⟩
  | .hbm, ⟨6, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Words.lean ====
/-
  The integers the pipelined call carries, in closed form.  The call walks the matrix `M` in 25 blocks of 400
  rows.  Its one loop carries eight words: how many blocks of `M` were asked for, how many arrived, whether the
  last step was reached, how many blocks of each result were sent off and how many of those have arrived, and
  the number of the current block.  Before step `k` each of them is a simple function of `k`; this module names
  those functions and decides, over the 25 steps, every offset, condition and range the program computes
  from them.
-/
module

public import proofs.«01_k».proof.Defs
public import proofs.«01_k».proof.Proof.Gen.KernelIdeal.Skeleton
public import Idealize.ShloMosaic.Lib.Ring
public import Idealize.ShloMosaic.Lib.Ring.Trips

@[expose] public section

noncomputable section

namespace Cert.Proof

open Cert.KernelIdeal Cert.KernelIdeal.Gen
open Idealize.ShloMosaic

/-! ## The carried words before step `k` -/

/-- Blocks of `M` asked for: two ahead, until all 25 are. -/
def wAsk (k : ℕ) : BitVec 32 := BitVec.ofNat 32 (min (k + 2) 25)
/-- Blocks of `M` waited for, and blocks of each result sent off: `k`. -/
def wNow (k : ℕ) : BitVec 32 := BitVec.ofNat 32 k
/-- One once the last step is over (the counter of the operand that is fetched once). -/
def wEnd (k : ℕ) : BitVec 32 := BitVec.ofNat 32 (k / 25)
/-- Blocks of each result waited for: one less than sent off. -/
def wBack (k : ℕ) : BitVec 32 := BitVec.ofNat 32 (k - 1)
/-- The number of the current block, zero again after the last. -/
def wBlk (k : ℕ) : BitVec 32 := BitVec.ofNat 32 (k % 25)

/-- The eight words before step `k`, in the loop's order. -/
abbrev words (k : ℕ) : BitVec 32 × BitVec 32 × BitVec 32 × BitVec 32 × BitVec 32 × BitVec 32 × BitVec 32 × BitVec 32 :=
  (wAsk k, wNow k, wEnd k, wNow k, wBack k, wNow k, wBack k, wBlk k)

theorem trips_eq : k0_t1_loop.trips = 25 := by decide

/-! ## Offsets: blocks of rows, slots of a buffer, cells of a semaphore array -/

/-- Block `b` of a 10000-row array begins at row `400 b`. -/
abbrev rowOff (b : Fin 25) : Fin 2 → Nat := ![400 * b.val, 0]
/-- Slot `s` of a buffer of slots. -/
abbrev slotOff (n : ℕ) (s : Fin n) : Fin 3 → Nat := ![s.val, 0, 0]
/-- Cell `s` of an array of cells. -/
abbrev cellOff (n : ℕ) (s : Fin n) : Fin 1 → Nat := ![s.val]

open Idealize.ShloMosaic.Ring (sl bk)

theorem off6_eq : ∀ k : Fin k0_t1_loop.trips, k.val < 23 → k0_off6 (wAsk k) = cellOff 3 (sl 3 (k + 2)) := by decide +kernel
theorem off7_eq : ∀ k : Fin k0_t1_loop.trips, k.val < 23 → k0_off7 (wAsk k) = slotOff 3 (sl 3 (k + 2)) := by decide +kernel
theorem off8_eq : ∀ k : Fin k0_t1_loop.trips, k.val < 23 → k0_off8 (wBlk k) = rowOff (bk 25 (k + 2)) := by decide +kernel
theorem off9_eq : ∀ k : Fin k0_t1_loop.trips, k0_off9 (wNow k) = cellOff 3 (sl 3 k) := by decide +kernel
theorem off10_eq : ∀ k : Fin k0_t1_loop.trips, k0_off10 (wNow k) = slotOff 3 (sl 3 k) := by decide +kernel
theorem off11_eq : ∀ k : Fin k0_t1_loop.trips, k0_off11 (wBlk k) = rowOff (bk 25 k) := by decide +kernel
theorem off12_eq : ∀ k : Fin k0_t1_loop.trips, k0_off12 (wNow k) = slotOff 3 (sl 3 k) := by decide +kernel
theorem off13_eq : ∀ k : Fin k0_t1_loop.trips, k0_off13 (wNow k) = slotOff 2 (sl 2 k) := by decide +kernel
theorem off14_eq : ∀ k : Fin k0_t1_loop.trips, k0_off14 (wNow k) = slotOff 2 (sl 2 k) := by decide +kernel
theorem off15_eq : ∀ k : Fin k0_t1_loop.trips, k0_off15 (wNow k) = cellOff 2 (sl 2 k) := by decide +kernel
theorem off16_eq : ∀ k : Fin k0_t1_loop.trips, k0_off16 (wBlk k) = rowOff (bk 25 k) := by decide +kernel
theorem off17_eq : ∀ k : Fin k0_t1_loop.trips, k0_off17 (wNow k) = slotOff 2 (sl 2 k) := by decide +kernel
theorem off18_eq : ∀ k : Fin k0_t1_loop.trips, k0_off18 (wNow k) = cellOff 2 (sl 2 k) := by decide +kernel
theorem off19_eq : ∀ k : Fin k0_t1_loop.trips, k0_off19 (wBlk k) = rowOff (bk 25 k) := by decide +kernel
theorem off20_eq : ∀ k : Fin k0_t1_loop.trips, k0_off20 (wNow k) = slotOff 2 (sl 2 k) := by decide +kernel
theorem off21_eq : ∀ k : Fin k0_t1_loop.trips, 1 ≤ k.val → k0_off21 (wBack k) = cellOff 2 (sl 2 (k + 1)) := by decide +kernel
theorem off22_eq : ∀ k : Fin k0_t1_loop.trips, 1 ≤ k.val → k0_off22 (wBlk k) = rowOff (bk 25 (k - 1)) := by decide +kernel
theorem off23_eq : ∀ k : Fin k0_t1_loop.trips, 1 ≤ k.val → k0_off23 (wBack k) = slotOff 2 (sl 2 (k + 1)) := by decide +kernel
theorem off24_eq : ∀ k : Fin k0_t1_loop.trips, 1 ≤ k.val → k0_off24 (wBack k) = cellOff 2 (sl 2 (k + 1)) := by decide +kernel
theorem off25_eq : ∀ k : Fin k0_t1_loop.trips, 1 ≤ k.val → k0_off25 (wBlk k) = rowOff (bk 25 (k - 1)) := by decide +kernel
theorem off26_eq : ∀ k : Fin k0_t1_loop.trips, 1 ≤ k.val → k0_off26 (wBack k) = slotOff 2 (sl 2 (k + 1)) := by decide +kernel

/-! ## Conditions: ask for a block ahead before the last two steps; wait and send at every step; wait for the block
before from the second step on -/

theorem cond1_eq : k0_cond1 = 1#1 := by decide
theorem cond2_pos : ∀ k : Fin k0_t1_loop.trips, k.val < 23 → k0_cond2 k (wBlk k) = 1#1 := by decide +kernel
theorem cond2_neg : ∀ k : Fin k0_t1_loop.trips, 23 ≤ k.val → ¬ k0_cond2 k (wBlk k) = 1#1 := by decide +kernel
theorem cond3_pos : ∀ k : Fin k0_t1_loop.trips, k0_cond3 k (wBlk k) = 1#1 := by decide +kernel
theorem cond7_pos : ∀ k : Fin k0_t1_loop.trips, k0_cond7 k (wBlk k) = 1#1 := by decide +kernel
theorem cond8_pos : ∀ k : Fin k0_t1_loop.trips, k0_cond8 k (wBlk k) = 1#1 := by decide +kernel
theorem cond10_pos : ∀ k : Fin k0_t1_loop.trips, 1 ≤ k.val → k0_cond10 k (wBlk k) = 1#1 := by decide +kernel
theorem cond11_pos : ∀ k : Fin k0_t1_loop.trips, 1 ≤ k.val → k0_cond11 k (wBlk k) = 1#1 := by decide +kernel
theorem cond10_neg : ∀ k : Fin k0_t1_loop.trips, k.val < 1 → ¬ k0_cond10 k (wBlk k) = 1#1 := by decide +kernel
theorem cond11_neg : ∀ k : Fin k0_t1_loop.trips, k.val < 1 → ¬ k0_cond11 k (wBlk k) = 1#1 := by decide +kernel

/-! ## The ranges the program checks -/

theorem chk1_all : ∀ k : Fin k0_t1_loop.trips, k0_chk1 k (wAsk k) (wNow k) (wNow k) (wBack k) (wNow k) (wBack k) (wBlk k) := by decide +kernel
theorem chk2_all : ∀ k : Fin k0_t1_loop.trips, k0_chk2 (wNow k) := by decide +kernel
theorem chk3_all : ∀ k : Fin k0_t1_loop.trips, k0_chk3 (wNow k) := by decide +kernel
theorem chk4_all : ∀ k : Fin k0_t1_loop.trips, k0_chk4 (wNow k) := by decide +kernel

/-! ## Before the loop, and after it -/

theorem words_zero : words 0 = (2#32, 0#32, 0#32, 0#32, 0#32, 0#32, 0#32, 0#32) := rfl
theorem chk5_end : k0_chk5 (wBack 25) := by decide +kernel
theorem chk6_end : k0_chk6 (wBlk 25) := by decide +kernel
theorem chk7_end : k0_chk7 (wBack 25) := by decide +kernel
theorem off1_eq : k0_off1 = cellOff 3 0 := by decide
theorem off2_eq : k0_off2 = slotOff 3 0 := by decide
theorem off3_eq : k0_off3 = cellOff 3 1 := by decide
theorem off4_eq : k0_off4 = slotOff 3 1 := by decide
theorem off5_eq : k0_off5 = rowOff 1 := by decide
theorem off27_eq : k0_off27 (wBack 25) = cellOff 2 (sl 2 (25 + 1)) := by decide +kernel
theorem off28_eq : k0_off28 (wBlk 25) = rowOff 24 := by decide +kernel
theorem off29_eq : k0_off29 (wBack 25) = slotOff 2 (sl 2 (25 + 1)) := by decide +kernel
theorem off30_eq : k0_off30 (wBack 25) = cellOff 2 (sl 2 (25 + 1)) := by decide +kernel
theorem off31_eq : k0_off31 (wBlk 25) = rowOff 24 := by decide +kernel
theorem off32_eq : k0_off32 (wBack 25) = slotOff 2 (sl 2 (25 + 1)) := by decide +kernel

end Cert.Proof

end
-- ==== Proof.Names.lean ====
/-
  Names for the parts of memory the pipelined call moves, and the equations by which the program's own slices
  are these names: block `b` of `M` and of each result (400 rows from row `400 b` on), the three slots of the
  buffer the blocks of `M` land in, the two slots of each result's buffer, and the cell each slot's transfers
  complete on.
-/
module

public import proofs.«01_k».proof.Proof.Words
public import Idealize.ShloMosaic.Lib.Tactic

@[expose] public section

noncomputable section

namespace Cert.Proof

open Cert.KernelIdeal Cert.KernelIdeal.Gen
open Idealize.ShloMosaic Idealize.ShloMosaic.Tactic
open Idealize.ShloMosaic.Ring (sl bk)

/-! ## The buffers -/

/-- The matrix `M`, the right operand, and the two results, in device memory. -/
abbrev mM : Memref sig .tc .hbm S10000x10000 .f32 := Memref.whole main_arg1
abbrev xM : Memref sig .tc .hbm S10000x128 .f32 := Memref.whole main_arg0
abbrev hM : Memref sig .tc .hbm S10000x128 .f32 := Memref.whole main_v0_0
abbrev aM : Memref sig .tc .hbm S10000x128 .f32 := Memref.whole main_v0_1
/-- The three slots for blocks of `M`, the copy of the right operand, and two slots for each result. -/
abbrev mBuf : Memref sig .tc .vmem S3x400x10000 .f32 := Memref.whole cc0_scoped0
abbrev xBuf : Memref sig .tc .vmem S10000x128 .f32 := Memref.whole cc0_scoped2
abbrev hBuf : Memref sig .tc .vmem S2x400x128 .f32 := Memref.whole cc0_scoped3
abbrev aBuf : Memref sig .tc .vmem S2x400x128 .f32 := Memref.whole cc0_scoped5

/-! ## Blocks, slots and cells lie inside their arrays -/

theorem rowOff_inM (b : Fin 25) : ∀ a, rowOff b a + S400x10000.size a ≤ S10000x10000.size a := by
  have := b.isLt; intro a; fin_cases a
  · show 400 * b.val + 400 ≤ 10000; omega
  · show 0 + 10000 ≤ 10000; omega
theorem rowOff_inH (b : Fin 25) : ∀ a, rowOff b a + S400x128.size a ≤ S10000x128.size a := by
  have := b.isLt; intro a; fin_cases a
  · show 400 * b.val + 400 ≤ 10000; omega
  · show 0 + 128 ≤ 128; omega
theorem slotOff_inM (s : Fin 3) : ∀ a, slotOff 3 s a + S1x400x10000.size a ≤ S3x400x10000.size a := by
  have := s.isLt; intro a; fin_cases a
  · show s.val + 1 ≤ 3; omega
  · show 0 + 400 ≤ 400; omega
  · show 0 + 10000 ≤ 10000; omega
theorem slotOff_inH (s : Fin 2) : ∀ a, slotOff 2 s a + S1x400x128.size a ≤ S2x400x128.size a := by
  have := s.isLt; intro a; fin_cases a
  · show s.val + 1 ≤ 2; omega
  · show 0 + 400 ≤ 400; omega
  · show 0 + 128 ≤ 128; omega
theorem cellOff_in3 (s : Fin 3) : ∀ a, cellOff 3 s a + S1.size a ≤ S3.size a := by
  have := s.isLt; intro a; fin_cases a; show s.val + 1 ≤ 3; omega
theorem cellOff_in2 (s : Fin 2) : ∀ a, cellOff 2 s a + S1.size a ≤ S2.size a := by
  have := s.isLt; intro a; fin_cases a; show s.val + 1 ≤ 2; omega

/-! ## The names -/

abbrev rowM (b : Fin 25) : Rect S10000x10000 := Rect.unit (s := S10000x10000) (rowOff b) S400x10000.size (rowOff_inM b)
abbrev rowH (b : Fin 25) : Rect S10000x128 := Rect.unit (s := S10000x128) (rowOff b) S400x128.size (rowOff_inH b)
abbrev boxM (s : Fin 3) : Rect S3x400x10000 := Rect.unit (s := S3x400x10000) (slotOff 3 s) S1x400x10000.size (slotOff_inM s)
abbrev boxH (s : Fin 2) : Rect S2x400x128 := Rect.unit (s := S2x400x128) (slotOff 2 s) S1x400x128.size (slotOff_inH s)

/-- Block `b` of `M`. -/
def mBlk (b : Fin 25) : Memref sig .tc .hbm S400x10000 .f32 := mM.slice (rowM b) (fun _ => rfl)
/-- Block `b` of the product. -/
def hBlk (b : Fin 25) : Memref sig .tc .hbm S400x128 .f32 := hM.slice (rowH b) (fun _ => rfl)
/-- Block `b` of the scaled product. -/
def aBlk (b : Fin 25) : Memref sig .tc .hbm S400x128 .f32 := aM.slice (rowH b) (fun _ => rfl)
/-- Slot `s` for a block of `M`. -/
def mSlot (s : Fin 3) : Memref sig .tc .vmem S400x10000 .f32 :=
  (mBuf.slice (boxM s) (fun _ => rfl)).squeeze S400x10000 squeezes_S1x400x10000_S400x10000
/-- Slot `s` for a block of the product. -/
def hSlot (s : Fin 2) : Memref sig .tc .vmem S400x128 .f32 :=
  (hBuf.slice (boxH s) (fun _ => rfl)).squeeze S400x128 squeezes_S1x400x128_S400x128
/-- Slot `s` for a block of the scaled product. -/
def aSlot (s : Fin 2) : Memref sig .tc .vmem S400x128 .f32 :=
  (aBuf.slice (boxH s) (fun _ => rfl)).squeeze S400x128 squeezes_S1x400x128_S400x128
/-- The cells the slots' transfers complete on. -/
def mCell (s : Fin 3) : DmaSems sig S_ := (cc0_scoped1.slice (Rect.unit (s := S3) (cellOff 3 s) S1.size (cellOff_in3 s))).squeeze S_ squeezes_S1_S_
def hCell (s : Fin 2) : DmaSems sig S_ := (cc0_scoped4.slice (Rect.unit (s := S2) (cellOff 2 s) S1.size (cellOff_in2 s))).squeeze S_ squeezes_S1_S_
def aCell (s : Fin 2) : DmaSems sig S_ := (cc0_scoped6.slice (Rect.unit (s := S2) (cellOff 2 s) S1.size (cellOff_in2 s))).squeeze S_ squeezes_S1_S_

instance (b : Fin 25) : ClosedOff (rowOff b) := ⟨rowOff b, rfl⟩
instance (n : ℕ) (s : Fin n) : ClosedOff (slotOff n s) := ⟨slotOff n s, rfl⟩
instance (k : Fin k0_t1_loop.trips) : ClosedOff (k0_off12 (wNow k)) := ⟨slotOff 3 (sl 3 k), off12_eq k⟩
instance (k : Fin k0_t1_loop.trips) : ClosedOff (k0_off13 (wNow k)) := ⟨slotOff 2 (sl 2 k), off13_eq k⟩
instance (k : Fin k0_t1_loop.trips) : ClosedOff (k0_off14 (wNow k)) := ⟨slotOff 2 (sl 2 k), off14_eq k⟩

/-! ## A slice at equal offsets is the name -/

section Congr
variable {o1 : Fin 1 → Nat} {o2 : Fin 2 → Nat} {o3 : Fin 3 → Nat}

theorem mBlk_of {b : Fin 25} (e : o2 = rowOff b) (hh hs) : mM.slice (Rect.unit (s := S10000x10000) o2 S400x10000.size hh) hs = mBlk b :=
  by subst e; rfl
theorem hBlk_of {b : Fin 25} (e : o2 = rowOff b) (hh hs) : hM.slice (Rect.unit (s := S10000x128) o2 S400x128.size hh) hs = hBlk b :=
  by subst e; rfl
theorem aBlk_of {b : Fin 25} (e : o2 = rowOff b) (hh hs) : aM.slice (Rect.unit (s := S10000x128) o2 S400x128.size hh) hs = aBlk b :=
  by subst e; rfl
theorem mSlot_of {s : Fin 3} (e : o3 = slotOff 3 s) (hh hs) :
    (mBuf.slice (Rect.unit (s := S3x400x10000) o3 S1x400x10000.size hh) hs).squeeze S400x10000 squeezes_S1x400x10000_S400x10000 = mSlot s := by
  subst e; rfl
theorem hSlot_of {s : Fin 2} (e : o3 = slotOff 2 s) (hh hs) :
    (hBuf.slice (Rect.unit (s := S2x400x128) o3 S1x400x128.size hh) hs).squeeze S400x128 squeezes_S1x400x128_S400x128 = hSlot s := by
  subst e; rfl
theorem aSlot_of {s : Fin 2} (e : o3 = slotOff 2 s) (hh hs) :
    (aBuf.slice (Rect.unit (s := S2x400x128) o3 S1x400x128.size hh) hs).squeeze S400x128 squeezes_S1x400x128_S400x128 = aSlot s := by
  subst e; rfl
theorem mCell_of {s : Fin 3} (e : o1 = cellOff 3 s) (hh) : (cc0_scoped1.slice (Rect.unit (s := S3) o1 S1.size hh)).squeeze S_ squeezes_S1_S_ = mCell s := by
  subst e; rfl
theorem hCell_of {s : Fin 2} (e : o1 = cellOff 2 s) (hh) : (cc0_scoped4.slice (Rect.unit (s := S2) o1 S1.size hh)).squeeze S_ squeezes_S1_S_ = hCell s := by
  subst e; rfl
theorem aCell_of {s : Fin 2} (e : o1 = cellOff 2 s) (hh) : (cc0_scoped6.slice (Rect.unit (s := S2) o1 S1.size hh)).squeeze S_ squeezes_S1_S_ = aCell s := by
  subst e; rfl

end Congr

/-! ## Before the loop: the first two blocks of `M` -/

@[sl_canon] theorem mCell_first (hh) : (cc0_scoped1.slice (Rect.unit (s := S3) k0_off1 S1.size hh)).squeeze S_ squeezes_S1_S_ = mCell 0 := mCell_of off1_eq _
@[sl_canon] theorem mSlot_first (hh hs) :
    (mBuf.slice (Rect.unit (s := S3x400x10000) k0_off2 S1x400x10000.size hh) hs).squeeze S400x10000 squeezes_S1x400x10000_S400x10000 = mSlot 0 := mSlot_of off2_eq _ _
@[sl_canon] theorem mBlk_first (hh hs) : mM.slice (Rect.unit (s := S10000x10000) ![0, 0] S400x10000.size hh) hs = mBlk 0 := mBlk_of (by decide) _ _
@[sl_canon] theorem mCell_second (hh) : (cc0_scoped1.slice (Rect.unit (s := S3) k0_off3 S1.size hh)).squeeze S_ squeezes_S1_S_ = mCell 1 := mCell_of off3_eq _
@[sl_canon] theorem mSlot_second (hh hs) :
    (mBuf.slice (Rect.unit (s := S3x400x10000) k0_off4 S1x400x10000.size hh) hs).squeeze S400x10000 squeezes_S1x400x10000_S400x10000 = mSlot 1 := mSlot_of off4_eq _ _
@[sl_canon] theorem mBlk_second (hh hs) : mM.slice (Rect.unit (s := S10000x10000) k0_off5 S400x10000.size hh) hs = mBlk 1 := mBlk_of off5_eq _ _

/-! ## Step `k`: ask for block `k + 2`, wait for block `k`, send both results' block `k`, wait for their block `k - 1` -/

section Step
variable (k : Fin k0_t1_loop.trips)

@[sl_canon] theorem mCell_ask (hk : k.val < 23) (hh) :
    (cc0_scoped1.slice (Rect.unit (s := S3) (k0_off6 (wAsk k)) S1.size hh)).squeeze S_ squeezes_S1_S_ = mCell (sl 3 (k + 2)) := mCell_of (off6_eq k hk) _
@[sl_canon] theorem mSlot_ask (hk : k.val < 23) (hh hs) :
    (mBuf.slice (Rect.unit (s := S3x400x10000) (k0_off7 (wAsk k)) S1x400x10000.size hh) hs).squeeze S400x10000 squeezes_S1x400x10000_S400x10000 = mSlot (sl 3 (k + 2)) :=
  mSlot_of (off7_eq k hk) _ _
@[sl_canon] theorem mBlk_ask (hk : k.val < 23) (hh hs) :
    mM.slice (Rect.unit (s := S10000x10000) (k0_off8 (wBlk k)) S400x10000.size hh) hs = mBlk (bk 25 (k + 2)) := mBlk_of (off8_eq k hk) _ _
@[sl_canon] theorem mCell_wait (hh) :
    (cc0_scoped1.slice (Rect.unit (s := S3) (k0_off9 (wNow k)) S1.size hh)).squeeze S_ squeezes_S1_S_ = mCell (sl 3 k) := mCell_of (off9_eq k) _
@[sl_canon] theorem mSlot_wait (hh hs) :
    (mBuf.slice (Rect.unit (s := S3x400x10000) (k0_off10 (wNow k)) S1x400x10000.size hh) hs).squeeze S400x10000 squeezes_S1x400x10000_S400x10000 = mSlot (sl 3 k) :=
  mSlot_of (off10_eq k) _ _
@[sl_canon] theorem mBlk_wait (hh hs) :
    mM.slice (Rect.unit (s := S10000x10000) (k0_off11 (wBlk k)) S400x10000.size hh) hs = mBlk (bk 25 k) := mBlk_of (off11_eq k) _ _
@[sl_canon] theorem hCell_send (hh) :
    (cc0_scoped4.slice (Rect.unit (s := S2) (k0_off15 (wNow k)) S1.size hh)).squeeze S_ squeezes_S1_S_ = hCell (sl 2 k) := hCell_of (off15_eq k) _
@[sl_canon] theorem hBlk_send (hh hs) :
    hM.slice (Rect.unit (s := S10000x128) (k0_off16 (wBlk k)) S400x128.size hh) hs = hBlk (bk 25 k) := hBlk_of (off16_eq k) _ _
@[sl_canon] theorem hSlot_send (hh hs) :
    (hBuf.slice (Rect.unit (s := S2x400x128) (k0_off17 (wNow k)) S1x400x128.size hh) hs).squeeze S400x128 squeezes_S1x400x128_S400x128 = hSlot (sl 2 k) :=
  hSlot_of (off17_eq k) _ _
@[sl_canon] theorem aCell_send (hh) :
    (cc0_scoped6.slice (Rect.unit (s := S2) (k0_off18 (wNow k)) S1.size hh)).squeeze S_ squeezes_S1_S_ = aCell (sl 2 k) := aCell_of (off18_eq k) _
@[sl_canon] theorem aBlk_send (hh hs) :
    aM.slice (Rect.unit (s := S10000x128) (k0_off19 (wBlk k)) S400x128.size hh) hs = aBlk (bk 25 k) := aBlk_of (off19_eq k) _ _
@[sl_canon] theorem aSlot_send (hh hs) :
    (aBuf.slice (Rect.unit (s := S2x400x128) (k0_off20 (wNow k)) S1x400x128.size hh) hs).squeeze S400x128 squeezes_S1x400x128_S400x128 = aSlot (sl 2 k) :=
  aSlot_of (off20_eq k) _ _
@[sl_canon] theorem hCell_wait (hk : 1 ≤ k.val) (hh) :
    (cc0_scoped4.slice (Rect.unit (s := S2) (k0_off21 (wBack k)) S1.size hh)).squeeze S_ squeezes_S1_S_ = hCell (sl 2 (k + 1)) := hCell_of (off21_eq k hk) _
@[sl_canon] theorem hBlk_wait (hk : 1 ≤ k.val) (hh hs) :
    hM.slice (Rect.unit (s := S10000x128) (k0_off22 (wBlk k)) S400x128.size hh) hs = hBlk (bk 25 (k - 1)) := hBlk_of (off22_eq k hk) _ _
@[sl_canon] theorem hSlot_wait (hk : 1 ≤ k.val) (hh hs) :
    (hBuf.slice (Rect.unit (s := S2x400x128) (k0_off23 (wBack k)) S1x400x128.size hh) hs).squeeze S400x128 squeezes_S1x400x128_S400x128 = hSlot (sl 2 (k + 1)) :=
  hSlot_of (off23_eq k hk) _ _
@[sl_canon] theorem aCell_wait (hk : 1 ≤ k.val) (hh) :
    (cc0_scoped6.slice (Rect.unit (s := S2) (k0_off24 (wBack k)) S1.size hh)).squeeze S_ squeezes_S1_S_ = aCell (sl 2 (k + 1)) := aCell_of (off24_eq k hk) _
@[sl_canon] theorem aBlk_wait (hk : 1 ≤ k.val) (hh hs) :
    aM.slice (Rect.unit (s := S10000x128) (k0_off25 (wBlk k)) S400x128.size hh) hs = aBlk (bk 25 (k - 1)) := aBlk_of (off25_eq k hk) _ _
@[sl_canon] theorem aSlot_wait (hk : 1 ≤ k.val) (hh hs) :
    (aBuf.slice (Rect.unit (s := S2x400x128) (k0_off26 (wBack k)) S1x400x128.size hh) hs).squeeze S400x128 squeezes_S1x400x128_S400x128 = aSlot (sl 2 (k + 1)) :=
  aSlot_of (off26_eq k hk) _ _

end Step

/-! ## After the loop: wait for both results' last block -/

@[sl_canon] theorem hCell_last (hh) :
    (cc0_scoped4.slice (Rect.unit (s := S2) (k0_off27 (wBack 25)) S1.size hh)).squeeze S_ squeezes_S1_S_ = hCell (sl 2 (25 + 1)) := hCell_of off27_eq _
@[sl_canon] theorem hBlk_last (hh hs) : hM.slice (Rect.unit (s := S10000x128) (k0_off28 (wBlk 25)) S400x128.size hh) hs = hBlk 24 := hBlk_of off28_eq _ _
@[sl_canon] theorem hSlot_last (hh hs) :
    (hBuf.slice (Rect.unit (s := S2x400x128) (k0_off29 (wBack 25)) S1x400x128.size hh) hs).squeeze S400x128 squeezes_S1x400x128_S400x128 = hSlot (sl 2 (25 + 1)) :=
  hSlot_of off29_eq _ _
@[sl_canon] theorem aCell_last (hh) :
    (cc0_scoped6.slice (Rect.unit (s := S2) (k0_off30 (wBack 25)) S1.size hh)).squeeze S_ squeezes_S1_S_ = aCell (sl 2 (25 + 1)) := aCell_of off30_eq _
@[sl_canon] theorem aBlk_last (hh hs) : aM.slice (Rect.unit (s := S10000x128) (k0_off31 (wBlk 25)) S400x128.size hh) hs = aBlk 24 := aBlk_of off31_eq _ _
@[sl_canon] theorem aSlot_last (hh hs) :
    (aBuf.slice (Rect.unit (s := S2x400x128) (k0_off32 (wBack 25)) S1x400x128.size hh) hs).squeeze S400x128 squeezes_S1x400x128_S400x128 = aSlot (sl 2 (25 + 1)) :=
  aSlot_of off32_eq _ _

end Cert.Proof

end
-- ==== Proof.Slots.lean ====
/-
  What the slots and the blocks read: a load of a slot through its whole buffer reads the slot, a store into a slot
  through its whole buffer is what the slot then reads, and each of the 25 row blocks of a 10000 by 128 array reads its
  own 400 rows. With the two blocks of results a trip computes.
-/
module

public import proofs.«01_k».proof.Proof.Names
public import Idealize.ShloMosaic.Lib.Pipeline.Value

@[expose] public section

noncomputable section

namespace Cert.Proof

open Cert.KernelIdeal Cert.KernelIdeal.Gen
open Idealize.ShloMosaic Idealize.ShloMosaic.Tactic
open Idealize.ShloMosaic.Ring (sl bk)

variable {F : FTy → Type} [FloatOps F]

/-! ## The two blocks a trip computes, from a block of `M`, the right operand and the scale -/

/-- 400 rows of the product. -/
abbrev prodBlk (w : S400x10000.Idx → Elt F .f32) (x : S10000x128.Idx → Elt F .f32) : S400x128.Idx → Elt F .f32 := k0_pay2 w x
/-- 400 rows of the scaled product. -/
abbrev scaledBlk (w : S400x10000.Idx → Elt F .f32) (x : S10000x128.Idx → Elt F .f32) (α : Elt F .f32) : S400x128.Idx → Elt F .f32 :=
  mulf (broadcast S400x128 α) (k0_pay2 w x)

/-- The right operand's copy, as the body loads it; the scale, as the body loads it. -/
abbrev loadX (f : xBuf.view.ty.Contents (Elt F)) : S10000x128.Idx → Elt F .f32 :=
  View.readAt (Elt F) xBuf.view (Rect.unit (s := S10000x128) ![0, 0] S10000x128.size inb_S10000x128_S10000x128_0_0).toLoadRect f
abbrev loadScale (arg0 : Memref sig .tc .smem S1 .f32) (f : arg0.view.ty.Contents (Elt F)) : Elt F .f32 :=
  View.readAt (Elt F) arg0.view (Rect.unit (s := S1) ![0] S1.size inb_S1_S1_0).toLoadRect f (Shape.Idx.first (by decide))

/-! ## Loads and stores through the whole buffer -/

section Loads
variable {o3 : Fin 3 → Nat}

omit [FloatOps F] in
theorem load_mSlot {s : Fin 3} (e : o3 = slotOff 3 s) (hh hc) (f : mBuf.view.ty.Contents (Elt F)) :
    shapeCast S400x10000 (View.readAt (Elt F) mBuf.view (Rect.unit (s := S3x400x10000) o3 S1x400x10000.size hh).toLoadRect f) hc
      = (mSlot s).view.read (Elt F) f := by
  subst e; rfl
omit [FloatOps F] in
theorem store_slot (B : Memref sig .tc .vmem S2x400x128 .f32) {s : Fin 2} (e : o3 = slotOff 2 s) (hh hc) (f : B.view.ty.Contents (Elt F))
    (w : S400x128.Idx → Elt F .f32) :
    ((B.slice (boxH s) (fun _ => rfl)).squeeze S400x128 squeezes_S1x400x128_S400x128).view.read (Elt F)
        (View.write (Elt F) (B.access (Rect.unit (s := S2x400x128) o3 S1x400x128.size hh)) f (shapeCast S1x400x128 w hc) Finset.univ) = w := by
  subst e
  show shapeCast S400x128 (View.read (Elt F) (B.access (boxH s)) (View.write (Elt F) (B.access (boxH s)) f _ Finset.univ)) shapeCasts_S1x400x128_S400x128 = w
  rw [View.read_write_univ]; exact shapeCast_shapeCast w hc _

end Loads

section Trip
variable (k : Fin k0_t1_loop.trips) (f : mBuf.view.ty.Contents (Elt F)) (w : S400x10000.Idx → Elt F .f32) (x : S10000x128.Idx → Elt F .f32) (α : Elt F .f32)

/-- The block of `M` a trip loads is the one its slot was filled with. -/
theorem loaded (hh hc) :
    shapeCast S400x10000 (View.readAt (Elt F) mBuf.view (Rect.unit (s := S3x400x10000) (k0_off12 (wNow k)) S1x400x10000.size hh).toLoadRect
        ((mSlot (sl 3 k)).view.writes (Elt F) f [⟨Rect.whole S400x10000, ReadAs.same.apply w⟩])) hc = w :=
  (load_mSlot (off12_eq k) hh hc _).trans (View.read_writes_whole _ _ _)
/-- What the product's slot reads after the trip's store. -/
theorem storedH (hh) (g : hBuf.view.ty.Contents (Elt F)) :
    (hSlot (sl 2 k)).view.read (Elt F) (View.write (Elt F) (hBuf.access (Rect.unit (s := S2x400x128) (k0_off13 (wNow k)) S1x400x128.size hh)) g (k0_pay3 w x) Finset.univ)
      = prodBlk w x := store_slot hBuf (off13_eq k) _ _ _ _
/-- What the scaled product's slot reads after the trip's store. -/
theorem storedA (hh) (g : aBuf.view.ty.Contents (Elt F)) :
    (aSlot (sl 2 k)).view.read (Elt F) (View.write (Elt F) (aBuf.access (Rect.unit (s := S2x400x128) (k0_off14 (wNow k)) S1x400x128.size hh)) g (k0_pay4 w x α) Finset.univ)
      = scaledBlk w x α := store_slot aBuf (off14_eq k) _ _ _ _

end Trip

end Cert.Proof

end
-- ==== Proof.Trip.lean ====
/-
  One trip of the pipelined loop. Before trip `k` block `k` of `M` and block `k + 1` are on their way into slots `k % 3`
  and `(k + 1) % 3`; slot `k % 2` of each result's buffer is free and the other one is on its way out with block `k - 1`.
  Trip `k` asks for block `k + 2`, waits for block `k`, computes both results' block `k` into their free slots, sends
  these out, and waits for the two that left at trip `k - 1`.
-/
module

public import proofs.«01_k».proof.Proof.Slots
public import proofs.«01_k».proof.Proof.Gen.KernelIdeal.Launch
public import proofs.«01_k».proof.Proof.Gen.KernelIdeal.Loops
public import Idealize.ShloMosaic.Lib.Pipeline.KitQuiescent
public import Idealize.ShloMosaic.Lib.Ring
public import Idealize.ShloMosaic.Lib.Ring.Trips

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]

/-! ## The algebra: the pipeline library's, beside the counters the kernel's own transfers use -/

abbrev UU (nD : Nat) (τ : Topo) : Type := UR sig nD τ × Counters
local notation "𝕄" => MT nD τ sig Unit (Elt F) ℕ (UU nD τ) ℕ
abbrev 𝒱₀ : Variants := Variants.none

/-! ## The pieces -/

section Pieces
variable (c : Dev nD)

/-- A cell at zero. -/
abbrev cellP (s : DmaSems sig S_) : sProp 𝕄 := semVal ((c : Thread nD τ), SemLoc.dma s.sem) 0
/-- A memref held in full on its own elements. -/
abbrev heldP {sp : Space} {s : Shape} (x : Memref sig .tc sp s .f32) (f : Buf (Elt F) (x.view.loc (c : Thread nD τ))) : sProp 𝕄 :=
  x.view.loc (c : Thread nD τ) ↦[x.view.set]{fullShare} f
/-- What a whole transfer of the words `w` leaves over prior contents `f`. -/
abbrev landed {sp : Space} {s : Shape} (x : Memref sig .tc sp s .f32) (f : Buf (Elt F) (x.view.loc (c : Thread nD τ))) (w : s.Idx → Elt F .f32) :
    Buf (Elt F) (x.view.loc (c : Thread nD τ)) :=
  x.view.writes (Elt F) f [⟨Rect.whole s, ReadAs.same.apply w⟩]

/-! The ring of blocks of `M`. -/

abbrev cellM (s : Fin 3) : sProp 𝕄 := cellP c (mCell s)
abbrev slotM (s : Fin 3) (f : Buf (Elt F) ((mSlot s).view.loc (c : Thread nD τ))) : sProp 𝕄 := heldP c (mSlot s) f
/-- Block `b` of `M`, at rest. -/
abbrev homeM (XM : Buf (Elt F) (mM.view.loc (c : Thread nD τ))) (b : Fin 25) : sProp 𝕄 := heldP c (mBlk b) XM
/-- Block `b` of `M` on its way into slot `s`. -/
abbrev comingM (XM : Buf (Elt F) (mM.view.loc (c : Thread nD τ))) (s : Fin 3) (b : Fin 25) (f : Buf (Elt F) ((mSlot s).view.loc (c : Thread nD τ))) : sProp 𝕄 :=
  Transfers.Flight countersEmb (c : Thread nD τ) (SemLoc.dma (mCell s).sem) () 505600
    iprop(heldP c (mSlot s) (landed c (mSlot s) f ((mBlk b).view.read (Elt F) XM)) ∗ homeM c XM b)
/-- The whole ring before trip `k`. -/
abbrev ringM (XM : Buf (Elt F) (mM.view.loc (c : Thread nD τ))) (k : ℕ) : sProp 𝕄 := Ring.At 2 (cellM c) (slotM c) (homeM c XM) (comingM c XM) k

/-! A ring of blocks of a result: its blocks `B`, slots `S` and cells `C`, and what each block is to hold, `p`. -/

section Out
variable (B : Fin 25 → Memref sig .tc .hbm S400x128 .f32) (S : Fin 2 → Memref sig .tc .vmem S400x128 .f32) (C : Fin 2 → DmaSems sig S_)
  (p : Fin 25 → S400x128.Idx → Elt F .f32)

/-- Slot `s` free. -/
abbrev freeO (s : Fin 2) : sProp 𝕄 := iprop(cellP c (C s) ∗ ∃ g, heldP c (S s) g)
/-- Slot contents `g` on their way to block `b`, over prior contents `f`. -/
abbrev goingO (s : Fin 2) (b : Fin 25) (g : Buf (Elt F) ((S s).view.loc (c : Thread nD τ))) (f : Buf (Elt F) ((B b).view.loc (c : Thread nD τ))) : sProp 𝕄 :=
  Transfers.Flight countersEmb (c : Thread nD τ) (SemLoc.dma (C s).sem) () 6400
    iprop(heldP c (B b) (landed c (B b) f ((S s).view.read (Elt F) g)) ∗ heldP c (S s) g)
/-- Block `b`'s values on their way out of slot `s`. -/
abbrev sentO (s : Fin 2) (b : Fin 25) : sProp 𝕄 := iprop(∃ g, ∃ f, ⌜(S s).view.read (Elt F) g = p b⌝ ∗ goingO c B S C s b g f)
/-- Block `b` still to be written. -/
abbrev aheadO (b : Fin 25) : sProp 𝕄 := iprop(∃ f, heldP c (B b) f)
/-- Block `b` written. -/
abbrev doneO (b : Fin 25) : sProp 𝕄 := iprop(∃ f, ⌜(B b).view.read (Elt F) f = p b⌝ ∗ heldP c (B b) f)
/-- The whole ring before trip `k`. -/
abbrev ringO (k : ℕ) : sProp 𝕄 := Ring.AtB 1 (freeO c S C) (sentO c B S C p) (aheadO c B) (doneO c B p) k

/-- A block that landed holds what the slot it left held. -/
theorem done_of (s : Fin 2) (b : Fin 25) (g : Buf (Elt F) ((S s).view.loc (c : Thread nD τ))) (f : Buf (Elt F) ((B b).view.loc (c : Thread nD τ)))
    (e : (S s).view.read (Elt F) g = p b) : heldP c (B b) (landed c (B b) f ((S s).view.read (Elt F) g)) ⊢ doneO c B p b := by
  iintro H; iexists (landed c (B b) f ((S s).view.read (Elt F) g)); isplitr
  · ipureintro; exact (View.read_writes_whole (B b).view f ((S s).view.read (Elt F) g)).trans e
  iexact H

end Out

end Pieces

/-! ## The trip -/

section Trip
variable (c : Dev nD) (XM : Buf (Elt F) (mM.view.loc (c : Thread nD τ))) (xv : S10000x128.Idx → Elt F .f32)
  (arg0 : Memref sig .tc .smem S1 .f32) (harg0 : arg0.IsWhole) (fα : Buf (Elt F) (arg0.view.loc (c : Thread nD τ)))
  (v10 v27 : BitVec 32) (v28 : BitVec 1)

/-- What block `b` of the product and of the scaled product is to hold. -/
abbrev prodOf (b : Fin 25) : S400x128.Idx → Elt F .f32 := prodBlk ((mBlk b).view.read (Elt F) XM) xv
abbrev scaledOf (b : Fin 25) : S400x128.Idx → Elt F .f32 := scaledBlk ((mBlk b).view.read (Elt F) XM) xv (loadScale arg0 fα)

abbrev ringH (k : ℕ) : sProp 𝕄 := ringO c hBlk hSlot hCell (prodOf c XM xv) k
abbrev ringA (k : ℕ) : sProp 𝕄 := ringO c aBlk aSlot aCell (scaledOf c XM xv arg0 fα) k

/-- What holds before trip `k`: the scale, the right operand's copy, what the core has waited for, and the three rings. -/
def before (k : ℕ) : sProp 𝕄 :=
  iprop(heldP c arg0 fα ∗ (∃ fx, ⌜loadX fx = xv⌝ ∗ heldP c xBuf fx) ∗ (∃ W, owes (c : Thread nD τ) 0 W)
    ∗ ringM c XM k ∗ ringH c XM xv k ∗ ringA c XM xv arg0 fα k)

abbrev trip (k : Fin k0_t1_loop.trips) :=
  k0_t1_body (F := F) arg0 harg0 mM (Memref.isWhole_whole _) xM (Memref.isWhole_whole _) hM (Memref.isWhole_whole _) aM (Memref.isWhole_whole _)
    mBuf (Memref.isWhole_whole _) cc0_scoped1 xBuf (Memref.isWhole_whole _) hBuf (Memref.isWhole_whole _) cc0_scoped4 aBuf (Memref.isWhole_whole _) cc0_scoped6
    cc0_scoped7 v10 v27 v28 k (words k)

set_option backward.proofsInPublic true in
/-- The first trip: both results' slots are still free. -/
theorem tripFirst (k : Fin k0_t1_loop.trips) (h0 : k.val = 0) :
    before c XM xv arg0 fα k ⊢ (wp frame (wpE (defs₀ (F := F)) 𝒱₀ (c : Thread nD τ) none) Set.univ (trip arg0 harg0 v10 v27 v28 k)
        (fun r => iprop(⌜r = words (k.val + 1)⌝ ∗ before c XM xv arg0 fα (k.val + 1))) : sProp 𝕄) := by
  have h25 : k.val < 25 := k.isLt
  have a4 : k0_chk4 (wNow k) := chk4_all k
  have a3 : k0_chk3 (wNow k) := chk3_all k
  have a2 : k0_chk2 (wNow k) := chk2_all k
  have a1 := chk1_all k
  have b2 := cond2_pos k (by omega)
  have b3 := cond3_pos k
  have b7 := cond7_pos k
  have b8 := cond8_pos k
  have b10 := cond10_neg k (by omega)
  have b11 := cond11_neg k (by omega)
  unfold before ringM ringH ringA ringO
  rw [Ring.At3_here _ _ _ _ k.val (by omega), Ring.At3_next _ _ _ _ k.val (by omega), Ring.slotAt3_next0 _ _ _ k.val (by omega), Ring.slotAt3_next1 _ _ _ k.val (by omega)]
  simp only [Ring.AtB2_zero' _ _ _ _ _ k.val h0, Ring.AtB21_next_zero' _ _ _ _ k.val h0]
  iintro ⟨Hα, ⟨%fx, %hx, Hx⟩, ⟨%W, HW⟩, ⟨⟨HB2, Hhome⟩, ⟨%f0, HM⟩, ⟨%f1, HM1⟩, ⟨HC2, ⟨%f2, HS2⟩⟩⟩,
    ⟨⟨⟨%fH, HHb⟩, HHahead⟩, ⟨HHc, ⟨%gH, HHs⟩⟩, HHother⟩, ⟨⟨⟨%fA, HAb⟩, HAahead⟩, ⟨HAc, ⟨%gA, HAs⟩⟩, HAother⟩⟩
  dsimp only [trip, words]
  sl_unfold [k0_t1_body]
  sl_exec
  sl_step
  isplitr
  · ipureintro; sl_unfold_run_names; simp only [Prod.mk.injEq]; clear * - k; revert k; decide +kernel
  isplitl [Hα]; · iexact Hα
  isplitl [Hx]
  · iexists fx; isplitr; · ipureintro; exact hx
    iexact Hx
  isplitl [HW]; · iexists _; iexact HW
  isplitl [HM_src Hhome HM1 HC2 HM HM_dst]
  · isplitl [HM_src Hhome]
    · isplitl [HM_src]; · iexact HM_src
      iexact Hhome
    isplitl [HM1]; · iexists f1; iexact HM1
    isplitl [HC2]; · iexists f2; iexact HC2
    isplitl [HM]; · iexact HM
    iexists _; iexact HM_dst
  isplitl [HHahead HHc HHother]
  · isplitl [HHahead]; · iexact HHahead
    isplitl [HHother]; · iexact HHother
    iexists _, fH; isplitr [HHc]; swap; · iexact HHc
    ipureintro; sl_unfold_run_names; exact (storedH k _ _ _ _).trans (congrArg (fun w => prodBlk w xv) (loaded k _ _ _ _))
  isplitl [HAahead]; · iexact HAahead
  isplitl [HAother]; · iexact HAother
  iexists _, fA; isplitr [HAc]; swap; · iexact HAc
  ipureintro; sl_unfold_run_names; exact (storedA k _ _ _ _ _).trans (congrArg (fun w => scaledBlk w xv (loadScale arg0 fα)) (loaded k _ _ _ _))

set_option backward.proofsInPublic true in
/-- A trip in the middle. -/
theorem tripMid (k : Fin k0_t1_loop.trips) (h1 : 1 ≤ k.val) (h23 : k.val < 23) :
    before c XM xv arg0 fα k ⊢ (wp frame (wpE (defs₀ (F := F)) 𝒱₀ (c : Thread nD τ) none) Set.univ (trip arg0 harg0 v10 v27 v28 k)
        (fun r => iprop(⌜r = words (k.val + 1)⌝ ∗ before c XM xv arg0 fα (k.val + 1))) : sProp 𝕄) := by
  have h25 : k.val < 25 := k.isLt
  have a4 : k0_chk4 (wNow k) := chk4_all k
  have a3 : k0_chk3 (wNow k) := chk3_all k
  have a2 : k0_chk2 (wNow k) := chk2_all k
  have a1 := chk1_all k
  have b2 := cond2_pos k h23
  have b3 := cond3_pos k
  have b7 := cond7_pos k
  have b8 := cond8_pos k
  have b10 := cond10_pos k h1
  have b11 := cond11_pos k h1
  unfold before ringM ringH ringA ringO
  rw [Ring.At3_here _ _ _ _ k.val (by omega), Ring.At3_next _ _ _ _ k.val (by omega), Ring.slotAt3_next0 _ _ _ k.val (by omega), Ring.slotAt3_next1 _ _ _ k.val (by omega)]
  simp only [Ring.AtB21_here _ _ _ _ k.val h1 h25, Ring.AtB21_next _ _ _ _ k.val h1 h25]
  iintro ⟨Hα, ⟨%fx, %hx, Hx⟩, ⟨%W, HW⟩, ⟨⟨HB2, Hhome⟩, ⟨%f0, HM⟩, ⟨%f1, HM1⟩, ⟨HC2, ⟨%f2, HS2⟩⟩⟩,
    ⟨⟨⟨%fH, HHb⟩, HHahead⟩, HHdone, ⟨HHc, ⟨%gH, HHs⟩⟩, ⟨%gH', %fH', %eH, HHf⟩⟩, ⟨⟨⟨%fA, HAb⟩, HAahead⟩, HAdone, ⟨HAc, ⟨%gA, HAs⟩⟩, ⟨%gA', %fA', %eA, HAf⟩⟩⟩
  dsimp only [trip, words]
  sl_unfold [k0_t1_body]
  sl_exec
  sl_step
  isplitr
  · ipureintro; sl_unfold_run_names; simp only [Prod.mk.injEq]; clear * - k; revert k; decide +kernel
  isplitl [Hα]; · iexact Hα
  isplitl [Hx]
  · iexists fx; isplitr; · ipureintro; exact hx
    iexact Hx
  isplitl [HW]; · iexists _; iexact HW
  isplitl [HM_src Hhome HM1 HC2 HM HM_dst]
  · isplitl [HM_src Hhome]
    · isplitl [HM_src]; · iexact HM_src
      iexact Hhome
    isplitl [HM1]; · iexists f1; iexact HM1
    isplitl [HC2]; · iexists f2; iexact HC2
    isplitl [HM]; · iexact HM
    iexists _; iexact HM_dst
  isplitl [HHahead HHc HHdone HHf_dst HHf_src HHf]
  · isplitl [HHahead]; · iexact HHahead
    isplitl [HHdone HHf_dst]
    · isplitl [HHf_dst]; · iapply (done_of c hBlk hSlot _ _ _ _ _ eH); iexact HHf_dst
      iexact HHdone
    isplitl [HHf HHf_src]
    · isplitl [HHf]; · iexact HHf
      iexists _; iexact HHf_src
    iexists _, fH; isplitr [HHc]; swap; · iexact HHc
    ipureintro; sl_unfold_run_names; exact (storedH k _ _ _ _).trans (congrArg (fun w => prodBlk w xv) (loaded k _ _ _ _))
  isplitl [HAahead]; · iexact HAahead
  isplitl [HAdone HAf_dst]
  · isplitl [HAf_dst]; · iapply (done_of c aBlk aSlot _ _ _ _ _ eA); iexact HAf_dst
    iexact HAdone
  isplitl [HAf HAf_src]
  · isplitl [HAf]; · iexact HAf
    iexists _; iexact HAf_src
  iexists _, fA; isplitr [HAc]; swap; · iexact HAc
  ipureintro; sl_unfold_run_names; exact (storedA k _ _ _ _ _).trans (congrArg (fun w => scaledBlk w xv (loadScale arg0 fα)) (loaded k _ _ _ _))

set_option backward.proofsInPublic true in
/-- One of the last two trips: there is no block of `M` left to ask for. -/
theorem tripTail (k : Fin k0_t1_loop.trips) (h23 : 23 ≤ k.val) :
    before c XM xv arg0 fα k ⊢ (wp frame (wpE (defs₀ (F := F)) 𝒱₀ (c : Thread nD τ) none) Set.univ (trip arg0 harg0 v10 v27 v28 k)
        (fun r => iprop(⌜r = words (k.val + 1)⌝ ∗ before c XM xv arg0 fα (k.val + 1))) : sProp 𝕄) := by
  have h25 : k.val < 25 := k.isLt
  have h1 : 1 ≤ k.val := by omega
  have a4 : k0_chk4 (wNow k) := chk4_all k
  have a3 : k0_chk3 (wNow k) := chk3_all k
  have a2 : k0_chk2 (wNow k) := chk2_all k
  have a1 := chk1_all k
  have b2 := cond2_neg k h23
  have b3 := cond3_pos k
  have b7 := cond7_pos k
  have b8 := cond8_pos k
  have b10 := cond10_pos k h1
  have b11 := cond11_pos k h1
  unfold before ringM ringH ringA ringO
  rw [Ring.At3_here_tail _ _ _ _ k.val h25, Ring.At3_next_tail _ _ _ _ k.val (by omega) h25, Ring.slotAt3_tail_role]
  simp only [Ring.AtB21_here _ _ _ _ k.val h1 h25, Ring.AtB21_next _ _ _ _ k.val h1 h25]
  iintro ⟨Hα, ⟨%fx, %hx, Hx⟩, ⟨%W, HW⟩, ⟨Hhome, ⟨%f0, HM⟩, HM1, HfreeM⟩,
    ⟨⟨⟨%fH, HHb⟩, HHahead⟩, HHdone, ⟨HHc, ⟨%gH, HHs⟩⟩, ⟨%gH', %fH', %eH, HHf⟩⟩, ⟨⟨⟨%fA, HAb⟩, HAahead⟩, HAdone, ⟨HAc, ⟨%gA, HAs⟩⟩, ⟨%gA', %fA', %eA, HAf⟩⟩⟩
  dsimp only [trip, words]
  sl_unfold [k0_t1_body]
  sl_exec
  sl_step
  isplitr
  · ipureintro; sl_unfold_run_names; simp only [Prod.mk.injEq]; clear * - k; revert k; decide +kernel
  isplitl [Hα]; · iexact Hα
  isplitl [Hx]
  · iexists fx; isplitr; · ipureintro; exact hx
    iexact Hx
  isplitl [HW]; · iexists _; iexact HW
  isplitl [HM_src Hhome HM1 HfreeM HM HM_dst]
  · isplitl [HM_src Hhome]
    · isplitl [HM_src]; · iexact HM_src
      iexact Hhome
    isplitl [HM1]; · iexact HM1
    isplitl [HfreeM]; · iexact HfreeM
    isplitl [HM]; · iexact HM
    iexists _; iexact HM_dst
  isplitl [HHahead HHc HHdone HHf_dst HHf_src HHf]
  · isplitl [HHahead]; · iexact HHahead
    isplitl [HHdone HHf_dst]
    · isplitl [HHf_dst]; · iapply (done_of c hBlk hSlot _ _ _ _ _ eH); iexact HHf_dst
      iexact HHdone
    isplitl [HHf HHf_src]
    · isplitl [HHf]; · iexact HHf
      iexists _; iexact HHf_src
    iexists _, fH; isplitr [HHc]; swap; · iexact HHc
    ipureintro; sl_unfold_run_names; exact (storedH k _ _ _ _).trans (congrArg (fun w => prodBlk w xv) (loaded k _ _ _ _))
  isplitl [HAahead]; · iexact HAahead
  isplitl [HAdone HAf_dst]
  · isplitl [HAf_dst]; · iapply (done_of c aBlk aSlot _ _ _ _ _ eA); iexact HAf_dst
    iexact HAdone
  isplitl [HAf HAf_src]
  · isplitl [HAf]; · iexact HAf
    iexists _; iexact HAf_src
  iexists _, fA; isplitr [HAc]; swap; · iexact HAc
  ipureintro; sl_unfold_run_names; exact (storedA k _ _ _ _ _).trans (congrArg (fun w => scaledBlk w xv (loadScale arg0 fα)) (loaded k _ _ _ _))

set_option backward.proofsInPublic true in
/-- Any trip. -/
theorem tripAny (k : Fin k0_t1_loop.trips) :
    before c XM xv arg0 fα k ⊢ (wp frame (wpE (defs₀ (F := F)) 𝒱₀ (c : Thread nD τ) none) Set.univ (trip arg0 harg0 v10 v27 v28 k)
        (fun r => iprop(⌜r = words (k.val + 1)⌝ ∗ before c XM xv arg0 fα (k.val + 1))) : sProp 𝕄) := by
  rcases Nat.eq_zero_or_pos k.val with h0 | h1
  · exact tripFirst c XM xv arg0 harg0 fα v10 v27 v28 k h0
  rcases Nat.lt_or_ge k.val 23 with h | h
  · exact tripMid c XM xv arg0 harg0 fα v10 v27 v28 k h1 h
  · exact tripTail c XM xv arg0 harg0 fα v10 v27 v28 k h

end Trip

end Cert.Proof

end
-- ==== Proof.Body.lean ====
/-
  The kernel's body: the right operand copied in, the first two blocks of `M` asked for, the loop, and the two last
  waits. It leaves the operands as they were and every block of both results written.
-/
module

public import proofs.«01_k».proof.Proof.Trip
public import Idealize.ShloMosaic.Lib.VecWindow

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]
local notation "𝕄" => MT nD τ sig Unit (Elt F) ℕ (UU nD τ) ℕ

section Body
variable (c : Dev nD) (XM : Buf (Elt F) (mM.view.loc (c : Thread nD τ))) (XX : Buf (Elt F) (xM.view.loc (c : Thread nD τ)))
  (arg0 : Memref sig .tc .smem S1 .f32) (harg0 : arg0.IsWhole) (fα : Buf (Elt F) (arg0.view.loc (c : Thread nD τ)))

/-- The body on the scale's staging memref, every other buffer its own. -/
abbrev bodyG : Prog (TpuEff nD τ sig (Elt F) Λ₀ .tc) PUnit :=
  cc0__outer arg0 harg0 mM (Memref.isWhole_whole _) xM (Memref.isWhole_whole _) hM (Memref.isWhole_whole _) aM (Memref.isWhole_whole _)
    mBuf (Memref.isWhole_whole _) cc0_scoped1 xBuf (Memref.isWhole_whole _) hBuf (Memref.isWhole_whole _) cc0_scoped4 aBuf (Memref.isWhole_whole _) cc0_scoped6
    cc0_scoped7

/-- The right operand's values. -/
abbrev xOf : S10000x128.Idx → Elt F .f32 := xM.view.read (Elt F) XX

omit [FloatOps F] in
/-- The copy of the right operand loads as the operand. -/
theorem loadX_copy (f : xBuf.view.ty.Contents (Elt F)) (w : S10000x128.Idx → Elt F .f32) :
    loadX (xBuf.view.writes (Elt F) f [⟨Rect.whole S10000x128, ReadAs.same.apply w⟩]) = w := by
  exact (View.readAt_full _ _ _).trans (View.read_writes_whole _ _ _)

/-- After the last trip every block of `M` is at rest and every slot is free. -/
theorem ringM_end : ringM c XM 25 ⊢ (Ring.At₀ (cellM c) (slotM c) (homeM c XM) : sProp 𝕄) := by
  unfold Ring.At₀; rw [Ring.bigSep_fin3]; exact Ring.free3_of_At_last _ _ _ _

/-- The rings of the two results when nothing is written yet, and when everything is. -/
abbrev startO (B : Fin 25 → Memref sig .tc .hbm S400x128 .f32) (S : Fin 2 → Memref sig .tc .vmem S400x128 .f32) (C : Fin 2 → DmaSems sig S_) : sProp 𝕄 :=
  Ring.AtB₀ (freeO c S C) (aheadO c B)
abbrev endO (B : Fin 25 → Memref sig .tc .hbm S400x128 .f32) (S : Fin 2 → Memref sig .tc .vmem S400x128 .f32) (C : Fin 2 → DmaSems sig S_)
    (p : Fin 25 → S400x128.Idx → Elt F .f32) : sProp 𝕄 := Ring.AtBEnd (freeO c S C) (doneO c B p)
/-- What the body finds and leaves alike beside the scale: the operands, the slots for `M`, the right operand's copy, and its cell. -/
abbrev kept : sProp 𝕄 :=
  iprop(heldP c xM XX ∗ Ring.At₀ (cellM c) (slotM c) (homeM c XM) ∗ (∃ f, heldP c xBuf f) ∗ cellP c cc0_scoped7)

abbrev PRE (W : Waits sig Unit) : sProp 𝕄 :=
  iprop((heldP c arg0 fα ∗ kept c XM XX) ∗ startO c hBlk hSlot hCell ∗ startO c aBlk aSlot aCell ∗ owes (c : Thread nD τ) 0 W)
abbrev POST : sProp 𝕄 :=
  iprop((heldP c arg0 fα ∗ kept c XM XX) ∗ endO c hBlk hSlot hCell (prodOf c XM (xOf c XX)) ∗ endO c aBlk aSlot aCell (scaledOf c XM (xOf c XX) arg0 fα)
    ∗ ∃ W, owes (c : Thread nD τ) 0 W)

set_option backward.proofsInPublic true in
theorem bodyRun (W) (Q : PUnit → sProp 𝕄) :
    iprop(PRE c XM XX arg0 fα W ∗ (POST c XM XX arg0 fα -∗ Q ⟨⟩))
      ⊢ wp frame (wpE (defs₀ (F := F)) 𝒱₀ (c : Thread nD τ) none) Set.univ (bodyG arg0 harg0) Q := by
  have b1 := cond1_eq
  have a5 := chk5_end
  have a6 := chk6_end
  have a7 := chk7_end
  unfold PRE kept
  rw [Ring.At₀_eq3 _ _ _ (by decide)]
  iintro ⟨⟨⟨Hα, HX, ⟨⟨HB0, HB1, HB2, HBrest⟩, ⟨HC0, ⟨%f0, HS0⟩⟩, ⟨HC1, ⟨%f1, HS1⟩⟩, Hfree2⟩, ⟨%fx, Hx⟩, Hxc⟩, HH, HA, HW⟩, Hk⟩
  sl_exec
  sl_for (fun k acc => iprop(⌜acc = words k⌝ ∗ before c XM (xOf c XX) arg0 fα k)) $$ [Hα HB2 HBrest Hfree2 HH HA Hx HW HC0 HC1]
  · intro k acc
    iintro ⟨%e, H⟩
    subst e
    iapply (tripAny c XM (xOf c XX) arg0 harg0 fα _ _ _ k)
    iexact H
  · isplitr; · ipureintro; exact words_zero
    unfold before ringM ringH ringA ringO startO
    rw [Ring.At3_here _ _ _ _ 0 (by omega), Ring.AtB_zero, Ring.AtB_zero]
    isplitl [Hα]; · iexact Hα
    isplitl [Hx]
    · iexists _; isplitr [Hx]; swap; · iexact Hx
      ipureintro; exact loadX_copy _ _
    isplitl [HW]; · iexists _; iexact HW
    isplitl [HB2 HBrest Hfree2 HC0 HC1]
    · isplitl [HB2 HBrest]
      · isplitl [HB2]; · iexact HB2
        iexact HBrest
      isplitl [HC0]; · iexists f0; iexact HC0
      isplitl [HC1]; · iexists f1; iexact HC1
      iexact Hfree2
    isplitl [HH]; · iexact HH
    iexact HA
  iintro %acc ⟨%e, H⟩
  subst e
  rw [show Scf.trips k0_t1_loop.lb k0_t1_loop.ub k0_t1_loop.st = 25 from trips_eq]
  unfold before ringH ringA ringO
  rw [Ring.AtB21_end' _ _ _ _ 25 rfl (by decide), Ring.AtB21_end' _ _ _ _ 25 rfl (by decide)]
  icases H with ⟨Hα, ⟨%fx', -, Hx⟩, ⟨%W', HW⟩, HM, ⟨HHd, HHfree, ⟨%gH, %fH, %eH, HHf⟩⟩, ⟨HAd, HAfree, ⟨%gA, %fA, %eA, HAf⟩⟩⟩
  dsimp only [words]
  sl_exec
  sl_step
  iapply Hk
  unfold POST kept endO
  rw [Ring.AtB21_epilogue' _ _ 25 rfl (by decide), Ring.AtB21_epilogue' _ _ 25 rfl (by decide)]
  isplitl [Hα HX HM Hx Hxc]
  · isplitl [Hα]; · iexact Hα
    isplitl [HX]; · iexact HX
    isplitl [HM]; · iapply (ringM_end c XM); iexact HM
    isplitl [Hx]; · iexists _; iexact Hx
    iexact Hxc
  isplitl [HHd HHfree HHf_dst HHf_src HHf]
  · isplitl [HHd HHf_dst]
    · isplitl [HHf_dst]; · iapply (done_of c hBlk hSlot _ _ _ _ _ eH); iexact HHf_dst
      iexact HHd
    isplitl [HHfree]; · iexact HHfree
    isplitl [HHf]; · iexact HHf
    iexists _; iexact HHf_src
  isplitl [HAd HAfree HAf_dst HAf_src HAf]
  · isplitl [HAd HAf_dst]
    · isplitl [HAf_dst]; · iapply (done_of c aBlk aSlot _ _ _ _ _ eA); iexact HAf_dst
      iexact HAd
    isplitl [HAfree]; · iexact HAfree
    isplitl [HAf]; · iexact HAf
    iexists _; iexact HAf_src
  iexists _; iexact HW

end Body

end Cert.Proof

end
-- ==== Proof.Parts.lean ====
/-
  The arrays and buffers cut into the body's blocks and slots, and put together again.
-/
module

public import proofs.«01_k».proof.Proof.Body
public import Idealize.ShloMosaic.Lib.ValueIdxCore

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Ring (sl bk)
open Idealize.ShloMosaic.ValueIdx (ix2)

variable {F : FTy → Type} [FloatOps F]
local notation "𝕄" => MT nD τ sig Unit (Elt F) ℕ (UU nD τ) ℕ

/-! ## The element sets: blocks of rows, and slots -/

abbrev setM (b : Fin 25) : Finset S10000x10000.Idx := (rowM b).set
abbrev setH (b : Fin 25) : Finset S10000x128.Idx := (rowH b).set
abbrev boxSetM (s : Fin 3) : Finset S3x400x10000.Idx := (boxM s).set
abbrev boxSetH (s : Fin 2) : Finset S2x400x128.Idx := (boxH s).set

/-- Sets told apart by one number are disjoint, and cover when that number is always in range. -/
theorem sorted_disjoint {n : ℕ} {α : Type} [DecidableEq α] (I : Fin n → Finset α) (v : α → ℕ) (h : ∀ b y, y ∈ I b ↔ v y = b.val) :
    ∀ b b', b ≠ b' → Disjoint (I b) (I b') := by
  intro b b' hne; rw [Finset.disjoint_left]; intro y hy hy'
  exact hne (Fin.ext (((h b y).1 hy).symm.trans ((h b' y).1 hy')))
theorem sorted_cover {n : ℕ} {α : Type} [Fintype α] [DecidableEq α] (I : Fin n → Finset α) (v : α → ℕ) (h : ∀ b y, y ∈ I b ↔ v y = b.val)
    (hv : ∀ y, v y < n) : Finset.univ.biUnion I = Finset.univ := by
  ext y; simp only [Finset.mem_biUnion, Finset.mem_univ, true_and, iff_true]; exact ⟨⟨v y, hv y⟩, (h _ y).2 rfl⟩

theorem mem_setM (b : Fin 25) (y : S10000x10000.Idx) : y ∈ setM b ↔ (y 0).val / 400 = b.val := by
  rw [Rect.mem_set_unit]
  have h1 : (y 1).val < 10000 := (y 1).isLt
  constructor
  · intro H; have a0 : 400 * b.val ≤ (y 0).val ∧ (y 0).val < 400 * b.val + 400 := H 0; omega
  · intro H i; fin_cases i
    · show 400 * b.val ≤ (y 0).val ∧ (y 0).val < 400 * b.val + 400; omega
    · show 0 ≤ (y 1).val ∧ (y 1).val < 0 + 10000; omega
theorem mem_setH (b : Fin 25) (y : S10000x128.Idx) : y ∈ setH b ↔ (y 0).val / 400 = b.val := by
  rw [Rect.mem_set_unit]
  have h1 : (y 1).val < 128 := (y 1).isLt
  constructor
  · intro H; have a0 : 400 * b.val ≤ (y 0).val ∧ (y 0).val < 400 * b.val + 400 := H 0; omega
  · intro H i; fin_cases i
    · show 400 * b.val ≤ (y 0).val ∧ (y 0).val < 400 * b.val + 400; omega
    · show 0 ≤ (y 1).val ∧ (y 1).val < 0 + 128; omega
theorem mem_boxSetM (s : Fin 3) (y : S3x400x10000.Idx) : y ∈ boxSetM s ↔ (y 0).val = s.val := by
  rw [Rect.mem_set_unit]
  have h1 : (y 1).val < 400 := (y 1).isLt
  have h2 : (y 2).val < 10000 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 400; omega
    · show 0 ≤ (y 2).val ∧ (y 2).val < 0 + 10000; omega
theorem mem_boxSetH (s : Fin 2) (y : S2x400x128.Idx) : y ∈ boxSetH s ↔ (y 0).val = s.val := by
  rw [Rect.mem_set_unit]
  have h1 : (y 1).val < 400 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 400; omega
    · show 0 ≤ (y 2).val ∧ (y 2).val < 0 + 128; omega

theorem block_lt (y : Fin 10000) : y.val / 400 < 25 := by have := y.isLt; omega

/-! ## A buffer in parts -/

omit [FloatOps F] in
theorem from_eq {P Q : sProp 𝕄} (e : P = Q) : P ⊢ Q := by rw [e]

omit [FloatOps F] in
theorem some_of {α : Type} (P : α → sProp 𝕄) (a : α) : P a ⊢ iprop(∃ a, P a) := by iintro H; iexists a; iexact H

section Parts
variable (c : Dev nD) {n : ℕ} (r : Ref sig .tc)
  (I : Fin n → Finset r.ty.Idx) (v : r.ty.Idx → ℕ) (hI : ∀ b y, y ∈ I b ↔ v y = b.val) (hv : ∀ y, v y < n)
  (P : Fin n → Buf (Elt F) ((c : Thread nD τ).loc r) → sProp (MT nD τ sig Unit (Elt F) ℕ (UU nD τ) ℕ)) (hP : ∀ b f, P b f = (((c : Thread nD τ).loc r) ↦[I b]{fullShare} f))

include hI hv hP in
/-- A buffer held at `f` is its parts held at `f`. -/
theorem parts_eq (f : Buf (Elt F) ((c : Thread nD τ).loc r)) : (((c : Thread nD τ).loc r) ↦{fullShare} f : sProp 𝕄) = bigSep Finset.univ fun b => P b f := by
  rw [Ring.pointsTo_blocks (ℓ := (c : Thread nD τ).loc r) I (sorted_disjoint I v hI) (sorted_cover I v hI hv)]
  exact bigSep_congr fun b _ => (hP b f).symm
include hI hv hP in
/-- A buffer held at anything gives each of its parts held at something, -/
theorem parts_some : iprop(∃ f : Buf (Elt F) ((c : Thread nD τ).loc r), ((c : Thread nD τ).loc r) ↦{fullShare} f) ⊢ bigSep Finset.univ fun b => iprop(∃ f, P b f) := by
  iintro ⟨%f, H⟩
  ihave H' := (from_eq (parts_eq c r I v hI hv P hP f)) $$ H
  iapply (show (bigSep Finset.univ (fun b => P b f) : sProp 𝕄) ⊢ bigSep Finset.univ fun b => iprop(∃ f, P b f) from bigSep_mono fun b _ => some_of (P b) f)
  iexact H'
include hI hv hP in
/-- and back. -/
theorem parts_join [Nonempty (Buf (Elt F) ((c : Thread nD τ).loc r))] :
    bigSep Finset.univ (fun b => iprop(∃ f, P b f)) ⊢ iprop(∃ f : Buf (Elt F) ((c : Thread nD τ).loc r), ((c : Thread nD τ).loc r) ↦{fullShare} f) := by
  rw [bigSep_congr (Ψ := fun b => iprop(∃ f, ((c : Thread nD τ).loc r) ↦[I b]{fullShare} f)) fun b _ => by simp only [hP]]
  exact Ring.pointsTo_blocks_join_exists (ℓ := (c : Thread nD τ).loc r) I (sorted_disjoint I v hI) (sorted_cover I v hI hv) (Classical.arbitrary _)

end Parts

section Held
variable (c : Dev nD)

omit [FloatOps F] in
theorem mBlk_held (b : Fin 25) (f) : heldP c (mBlk b) f = (((c : Thread nD τ).loc main_arg1) ↦[setM b]{fullShare} f : sProp 𝕄) :=
  congrArg (fun S => (_ ↦[S]{fullShare} f : sProp 𝕄)) (View.set_slice_whole _ _)
omit [FloatOps F] in
theorem hBlk_held (b : Fin 25) (f) : heldP c (hBlk b) f = (((c : Thread nD τ).loc main_v0_0) ↦[setH b]{fullShare} f : sProp 𝕄) :=
  congrArg (fun S => (_ ↦[S]{fullShare} f : sProp 𝕄)) (View.set_slice_whole _ _)
omit [FloatOps F] in
theorem aBlk_held (b : Fin 25) (f) : heldP c (aBlk b) f = (((c : Thread nD τ).loc main_v0_1) ↦[setH b]{fullShare} f : sProp 𝕄) :=
  congrArg (fun S => (_ ↦[S]{fullShare} f : sProp 𝕄)) (View.set_slice_whole _ _)
omit [FloatOps F] in
theorem mSlot_held (s : Fin 3) (f) : heldP c (mSlot s) f = (((c : Thread nD τ).loc cc0_scoped0) ↦[boxSetM s]{fullShare} f : sProp 𝕄) :=
  congrArg (fun S => (_ ↦[S]{fullShare} f : sProp 𝕄)) ((View.set_reshape _ _).trans (View.set_slice_whole _ _))
omit [FloatOps F] in
theorem hSlot_held (s : Fin 2) (f) : heldP c (hSlot s) f = (((c : Thread nD τ).loc cc0_scoped3) ↦[boxSetH s]{fullShare} f : sProp 𝕄) :=
  congrArg (fun S => (_ ↦[S]{fullShare} f : sProp 𝕄)) ((View.set_reshape _ _).trans (View.set_slice_whole _ _))
omit [FloatOps F] in
theorem aSlot_held (s : Fin 2) (f) : heldP c (aSlot s) f = (((c : Thread nD τ).loc cc0_scoped5) ↦[boxSetH s]{fullShare} f : sProp 𝕄) :=
  congrArg (fun S => (_ ↦[S]{fullShare} f : sProp 𝕄)) ((View.set_reshape _ _).trans (View.set_slice_whole _ _))
omit [FloatOps F] in
/-- A whole buffer's memref held is the buffer held. -/
theorem whole_held (r : Ref sig .tc) (f : Buf (Elt F) ((c : Thread nD τ).loc r)) :
    ((View.whole r).loc (c : Thread nD τ) ↦[(View.whole r).set]{fullShare} f : sProp 𝕄) = (((c : Thread nD τ).loc r) ↦{fullShare} f) :=
  congrArg (fun S => (_ ↦[S]{fullShare} f : sProp 𝕄)) (View.set_whole r)

/-- `M` whole is its blocks; -/
theorem m_eq (f) : (((c : Thread nD τ).loc main_arg1) ↦{fullShare} f : sProp 𝕄) = bigSep Finset.univ (homeM c f) :=
  parts_eq c main_arg1 setM (fun y => (y 0).val / 400) mem_setM (fun y => block_lt (y 0)) (fun b f => heldP c (mBlk b) f) (mBlk_held c) f
/-- and each result its blocks. -/
theorem h_eq (f) : (((c : Thread nD τ).loc main_v0_0) ↦{fullShare} f : sProp 𝕄) = bigSep Finset.univ (fun b => heldP c (hBlk b) f) :=
  parts_eq c main_v0_0 setH (fun y => (y 0).val / 400) mem_setH (fun y => block_lt (y 0)) (fun b f => heldP c (hBlk b) f) (hBlk_held c) f
theorem a_eq (f) : (((c : Thread nD τ).loc main_v0_1) ↦{fullShare} f : sProp 𝕄) = bigSep Finset.univ (fun b => heldP c (aBlk b) f) :=
  parts_eq c main_v0_1 setH (fun y => (y 0).val / 400) mem_setH (fun y => block_lt (y 0)) (fun b f => heldP c (aBlk b) f) (aBlk_held c) f

/-- The three slotted buffers, cut and joined. -/
theorem mBuf_cut : iprop(∃ f : Buf (Elt F) ((c : Thread nD τ).loc cc0_scoped0), ((c : Thread nD τ).loc cc0_scoped0) ↦{fullShare} f)
    ⊢ (bigSep Finset.univ (fun s => iprop(∃ f, slotM c s f)) : sProp 𝕄) :=
  parts_some c cc0_scoped0 boxSetM (fun y => (y 0).val) mem_boxSetM (fun y => (y 0).isLt) (fun s f => slotM c s f) (mSlot_held c)
theorem mBuf_join : (bigSep Finset.univ (fun s => iprop(∃ f, slotM c s f)) : sProp 𝕄)
    ⊢ iprop(∃ f : Buf (Elt F) ((c : Thread nD τ).loc cc0_scoped0), ((c : Thread nD τ).loc cc0_scoped0) ↦{fullShare} f) :=
  parts_join c cc0_scoped0 boxSetM (fun y => (y 0).val) mem_boxSetM (fun y => (y 0).isLt) (fun s f => slotM c s f) (mSlot_held c)
theorem hBuf_cut : iprop(∃ f : Buf (Elt F) ((c : Thread nD τ).loc cc0_scoped3), ((c : Thread nD τ).loc cc0_scoped3) ↦{fullShare} f)
    ⊢ (bigSep Finset.univ (fun s => iprop(∃ f, heldP c (hSlot s) f)) : sProp 𝕄) :=
  parts_some c cc0_scoped3 boxSetH (fun y => (y 0).val) mem_boxSetH (fun y => (y 0).isLt) (fun s f => heldP c (hSlot s) f) (hSlot_held c)
theorem hBuf_join : (bigSep Finset.univ (fun s => iprop(∃ f, heldP c (hSlot s) f)) : sProp 𝕄)
    ⊢ iprop(∃ f : Buf (Elt F) ((c : Thread nD τ).loc cc0_scoped3), ((c : Thread nD τ).loc cc0_scoped3) ↦{fullShare} f) :=
  parts_join c cc0_scoped3 boxSetH (fun y => (y 0).val) mem_boxSetH (fun y => (y 0).isLt) (fun s f => heldP c (hSlot s) f) (hSlot_held c)
theorem aBuf_cut : iprop(∃ f : Buf (Elt F) ((c : Thread nD τ).loc cc0_scoped5), ((c : Thread nD τ).loc cc0_scoped5) ↦{fullShare} f)
    ⊢ (bigSep Finset.univ (fun s => iprop(∃ f, heldP c (aSlot s) f)) : sProp 𝕄) :=
  parts_some c cc0_scoped5 boxSetH (fun y => (y 0).val) mem_boxSetH (fun y => (y 0).isLt) (fun s f => heldP c (aSlot s) f) (aSlot_held c)
theorem aBuf_join : (bigSep Finset.univ (fun s => iprop(∃ f, heldP c (aSlot s) f)) : sProp 𝕄)
    ⊢ iprop(∃ f : Buf (Elt F) ((c : Thread nD τ).loc cc0_scoped5), ((c : Thread nD τ).loc cc0_scoped5) ↦{fullShare} f) :=
  parts_join c cc0_scoped5 boxSetH (fun y => (y 0).val) mem_boxSetH (fun y => (y 0).isLt) (fun s f => heldP c (aSlot s) f) (aSlot_held c)

end Held

/-! ## A result put together from its blocks -/

/-- Row `i` is row `i % 400` of block `i / 400`. -/
def blkOf (i : S10000x128.Idx) : Fin 25 := ⟨(i 0).val / 400, by have : (i 0).val < 10000 := (i 0).isLt; omega⟩
def inBlk (i : S10000x128.Idx) : S400x128.Idx := ix2 ⟨(i 0).val % 400, Nat.mod_lt _ (by decide)⟩ (i 1)
/-- The array holding `p b` at block `b`. -/
def fromBlocks (p : Fin 25 → S400x128.Idx → Elt F .f32) : S10000x128.Idx → Elt F .f32 := fun i => p (blkOf i) (inBlk i)

theorem emb_inBlk {b : Fin 25} {i : S10000x128.Idx} (h : (i 0).val / 400 = b.val) : (rowH b).emb (inBlk i) = i := by
  funext a; fin_cases a
  · exact Fin.ext (show 400 * b.val + 1 * ((i 0).val % 400) = (i 0).val by omega)
  · exact Fin.ext (show 0 + 1 * (i 1).val = (i 1).val by omega)
omit [FloatOps F] in
/-- Contents that read `p b` on block `b` agree there with the array. -/
theorem fromBlocks_agree (p : Fin 25 → S400x128.Idx → Elt F .f32) {b : Fin 25} (f : S10000x128.Idx → Elt F .f32)
    (e : (fun j => f ((rowH b).emb j)) = p b) {i : S10000x128.Idx} (hi : i ∈ setH b) : f i = fromBlocks p i := by
  have h := (mem_setH b i).1 hi
  have hb : blkOf i = b := Fin.ext h
  unfold fromBlocks; rw [hb, ← e]; exact congrArg f (emb_inBlk h).symm

omit [FloatOps F] in
/-- A block written holds its part of that array, -/
theorem hBlk_done (c : Dev nD) (p : Fin 25 → S400x128.Idx → Elt F .f32) (b : Fin 25) : doneO c hBlk p b ⊢ (heldP c (hBlk b) (fromBlocks p) : sProp 𝕄) := by
  iintro ⟨%f, %e, H⟩
  iapply (from_eq ((hBlk_held c b f).trans ((pointsTo_congr fun i hi => fromBlocks_agree p f e hi).trans (hBlk_held c b (fromBlocks p)).symm)))
  iexact H
omit [FloatOps F] in
theorem aBlk_done (c : Dev nD) (p : Fin 25 → S400x128.Idx → Elt F .f32) (b : Fin 25) : doneO c aBlk p b ⊢ (heldP c (aBlk b) (fromBlocks p) : sProp 𝕄) := by
  iintro ⟨%f, %e, H⟩
  iapply (from_eq ((aBlk_held c b f).trans ((pointsTo_congr fun i hi => fromBlocks_agree p f e hi).trans (aBlk_held c b (fromBlocks p)).symm)))
  iexact H
/-- so all of them make the array. -/
theorem h_done (c : Dev nD) (p : Fin 25 → S400x128.Idx → Elt F .f32) :
    bigSep Finset.univ (doneO c hBlk p) ⊢ (((c : Thread nD τ).loc main_v0_0) ↦{fullShare} fromBlocks p : sProp 𝕄) := by
  rw [h_eq c (fromBlocks p)]; exact bigSep_mono fun b _ => hBlk_done c p b
theorem a_done (c : Dev nD) (p : Fin 25 → S400x128.Idx → Elt F .f32) :
    bigSep Finset.univ (doneO c aBlk p) ⊢ (((c : Thread nD τ).loc main_v0_1) ↦{fullShare} fromBlocks p : sProp 𝕄) := by
  rw [a_eq c (fromBlocks p)]; exact bigSep_mono fun b _ => aBlk_done c p b
/-- A result held at anything is its blocks held at anything. -/
theorem h_ahead (c : Dev nD) (f) : (((c : Thread nD τ).loc main_v0_0) ↦{fullShare} f : sProp 𝕄) ⊢ bigSep Finset.univ (aheadO c hBlk) := by
  rw [h_eq c f]; exact bigSep_mono fun b _ => some_of _ f
theorem a_ahead (c : Dev nD) (f) : (((c : Thread nD τ).loc main_v0_1) ↦{fullShare} f : sProp 𝕄) ⊢ bigSep Finset.univ (aheadO c aBlk) := by
  rw [a_eq c f]; exact bigSep_mono fun b _ => some_of _ f

end Cert.Proof

end
-- ==== Proof.Run.lean ====
/-
  The run of `main` from any memory, for any float values: it terminates, the arguments and the semaphores end as they
  began, and each result ends as the array put together from its blocks.
-/
module

public import proofs.«01_k».proof.Proof.Parts
public import proofs.«01_k».proof.Proof.Gen.KernelIdeal.Points

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
abbrev EP : Emb (UR sig nD τ) (MT nD τ sig Unit (Elt F) ℕ (UU nD τ) ℕ) := embL

/-! ## The kernel's own semaphores -/

abbrev osem : Fin 8 → SemLoc sig :=
  ![.dma (mCell 0).sem, .dma (mCell 1).sem, .dma (mCell 2).sem, .dma (hCell 0).sem, .dma (hCell 1).sem, .dma (aCell 0).sem, .dma (aCell 1).sem, .dma cc0_scoped7.sem]
theorem ownSemFacts : Pipeline.OwnSemFacts spec0 osem := by decide

abbrev cellsO (c : Dev nD) (C : Fin 2 → DmaSems sig S_) : sProp 𝕄 := bigSep Finset.univ fun s => cellP c (C s)
omit [FloatOps F] in
theorem ownSems0_eq (c : Dev nD) : (Pipeline.ownSems0 (Ix := Unit) (Name := ℕ) (U := UU nD τ) (Lvl := ℕ) (Val := Elt F) (τ := τ) osem c : sProp 𝕄)
    = iprop(cellM c 0 ∗ cellM c 1 ∗ cellM c 2 ∗ cellP c (hCell 0) ∗ cellP c (hCell 1) ∗ cellP c (aCell 0) ∗ cellP c (aCell 1) ∗ cellP c cc0_scoped7) :=
  bigSep_univ_eq_bigSepL [(0 : Fin 8), 1, 2, 3, 4, 5, 6, 7] (by decide) (by decide) _

/-! ## The rings from their parts, and back -/

section Rings
variable (c : Dev nD)

/-- Free slots of the ring `M`'s blocks come in are its semaphores and their buffer. -/
theorem freeM_eq : (bigSep Finset.univ (Ring.free (cellM c) (slotM c)) : sProp 𝕄)
    = iprop((cellM c 0 ∗ cellM c 1 ∗ cellM c 2) ∗ bigSep Finset.univ fun s => iprop(∃ f, slotM c s f)) := by
  refine (bigSep_sep' Finset.univ (cellM c) fun s => iprop(∃ f, slotM c s f)).trans ?_
  rw [Ring.bigSep_fin3 (cellM c)]
/-- So it is for a ring results leave by. -/
theorem freeO_eq (S : Fin 2 → Memref sig .tc .vmem S400x128 .f32) (C : Fin 2 → DmaSems sig S_) :
    (bigSep Finset.univ (freeO c S C) : sProp 𝕄) = iprop((cellP c (C 0) ∗ cellP c (C 1)) ∗ bigSep Finset.univ fun s => iprop(∃ g, heldP c (S s) g)) := by
  refine (bigSep_sep' Finset.univ (fun s => cellP c (C s)) fun s => iprop(∃ g, heldP c (S s) g)).trans ?_
  rw [Ring.bigSep_fin2 (fun s => cellP c (C s))]

theorem startO_of (B : Fin 25 → Memref sig .tc .hbm S400x128 .f32) (S : Fin 2 → Memref sig .tc .vmem S400x128 .f32) (C : Fin 2 → DmaSems sig S_)
    (R Z : sProp 𝕄) (hR : R ⊢ bigSep Finset.univ (aheadO c B)) (hZ : Z ⊢ bigSep Finset.univ fun s => iprop(∃ g, heldP c (S s) g)) :
    iprop(R ∗ (cellP c (C 0) ∗ cellP c (C 1)) ∗ Z) ⊢ startO c B S C := by
  unfold startO Ring.AtB₀; rw [freeO_eq]
  exact BIClass.sep_mono hR (sep_mono_r hZ)
theorem of_endO (B : Fin 25 → Memref sig .tc .hbm S400x128 .f32) (S : Fin 2 → Memref sig .tc .vmem S400x128 .f32) (C : Fin 2 → DmaSems sig S_) (p)
    (R Z : sProp 𝕄) (hR : bigSep Finset.univ (doneO c B p) ⊢ R) (hZ : (bigSep Finset.univ fun s => iprop(∃ g, heldP c (S s) g)) ⊢ Z) :
    endO c B S C p ⊢ iprop((cellP c (C 0) ∗ cellP c (C 1)) ∗ Z ∗ R) := by
  unfold endO Ring.AtBEnd; rw [freeO_eq]
  iintro ⟨HR, HC, HZ⟩
  isplitl [HC]; · iexact HC
  isplitl [HZ]
  · iapply hZ; iexact HZ
  iapply hR; iexact HR

end Rings

/-! ## What the results end as -/

variable (m : (ℓ : Loc nD τ sig) → Buf (Elt F) ℓ) (ρ : Dev nD → PrngReg)

/-- The arguments. -/
abbrev argX (c : Dev nD) : S10000x128.Idx → Elt F .f32 := m ((c : Thread nD τ).loc main_arg0)
abbrev argM (c : Dev nD) : S10000x10000.Idx → Elt F .f32 := m ((c : Thread nD τ).loc main_arg1)
abbrev argα (c : Dev nD) : S1.Idx → Elt F .f32 := m ((c : Thread nD τ).loc main_arg2)
/-- The one index of the scale. -/
abbrev one : S1.Idx := Shape.Idx.first (by decide)
theorem one_only (i j : S1.Idx) : i = j := funext fun a => Fin.ext (by
  have hi := (i a).isLt; have hj := (j a).isLt
  have h : S1.size a = 1 := by fin_cases a; rfl
  omega)
/-- Block `b` of `M`'s rows, times the right operand, -/
def prodAt (c : Dev nD) (b : Fin 25) : S400x128.Idx → Elt F .f32 := prodBlk (fun j => argM m c ((rowM b).emb j)) (argX m c)
/-- and that scaled. -/
def scaledAt (c : Dev nD) (b : Fin 25) : S400x128.Idx → Elt F .f32 := scaledBlk (fun j => argM m c ((rowM b).emb j)) (argX m c) (argα m c one)
/-- The two results. -/
def outH (c : Dev nD) : Buf (Elt F) ((c : Thread nD τ).loc main_v0_0) := fromBlocks (prodAt m c)
def outA (c : Dev nD) : Buf (Elt F) ((c : Thread nD τ).loc main_v0_1) := fromBlocks (scaledAt m c)

/-! ## The pipeline's proof data -/

/-- Before the one point: the operands and the slots, nothing written. After: everything written. -/
def Φ (c : Dev nD) (i : ℕ) : sProp 𝕄 :=
  if i = 0 then iprop(kept c (argM m c) (argX m c) ∗ startO c hBlk hSlot hCell ∗ startO c aBlk aSlot aCell)
  else iprop(kept c (argM m c) (argX m c) ∗ endO c hBlk hSlot hCell (prodAt m c) ∗ endO c aBlk aSlot aCell (scaledAt m c))

abbrev st0 (t : Fin cfg0.N) : Memref sig .tc .smem S1 .f32 := win0_0.stage (cfg0.slots t 0)
abbrev hst0 (t : Fin cfg0.N) : (st0 t).IsWhole := hstage0_0 0

/-- The scale's block at point `t`, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The scale the body loads is the argument's one number. -/
theorem scale_eq (c : Dev nD) (t : Fin cfg0.N) : loadScale (st0 t) ((st0 t).view.rep (iblk m c 0 t)) = argα m c one := by
  unfold loadScale
  rw [View.readAt_apply, View.read_rep]
  unfold iblk; rw [View.read_apply]
  exact congrArg (argα m c) (one_only _ _)

def dats (_ : Fin 1) (c : Dev nD) : Dat τ (Elt F) Unit ℕ (UU nD τ) ℕ cfg0 c where
  A w := m ((c : Thread nD τ).loc (Pipeline.arrRef spec0 w))
  after w t := match w with
    | ⟨0, _⟩ => iblk m c 0 t
  Φ i := Φ m c i.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]

/-! ## The body obligation -/

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

theorem Φ_start (c : Dev nD) (t : Fin cfg0.N) : (dats m 0 c).Φ t.castSucc
    = iprop(kept c (argM m c) (argX m c) ∗ startO c hBlk hSlot hCell ∗ startO c aBlk aSlot aCell) := by
  have ht : t.val = 0 := by have h := t.isLt; have e : cfg0.N = 1 := N_0; omega
  exact if_pos ht
theorem Φ_late (c : Dev nD) (n : ℕ) (h : n ≠ 0) : Φ m c n
    = iprop(kept c (argM m c) (argX m c) ∗ endO c hBlk hSlot hCell (prodAt m c) ∗ endO c aBlk aSlot aCell (scaledAt m c)) := if_neg h
theorem Φ_end (c : Dev nD) (t : Fin cfg0.N) : (dats m 0 c).Φ t.succ
    = iprop(kept c (argM m c) (argX m c) ∗ endO c hBlk hSlot hCell (prodAt m c) ∗ endO c aBlk aSlot aCell (scaledAt m c)) :=
  Φ_late m c t.succ.val (Nat.succ_ne_zero t.val)

theorem prod_eq (c : Dev nD) : prodOf c (argM m c) (xOf c (argX m c)) = prodAt m c := rfl
theorem scaled_eq (c : Dev nD) (t : Fin cfg0.N) :
    scaledOf c (argM m c) (xOf c (argX m c)) (st0 t) ((st0 t).view.rep (iblk m c 0 t)) = scaledAt m c := by
  unfold scaledOf; rw [scale_eq]; rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, after_w0]
  rw [Φ_start, Φ_end]
  unfold Dat.owesAt Pipeline.owesWithin
  rw [show (dats m 0 c).owed t.castSucc = 0 from rfl, show (dats m 0 c).owed t.succ = 0 from rfl]
  unfold owns
  iintro ⟨⟨HK, HH, HA⟩, ⟨%W, -, HW⟩, ⟨%d0, %g0, %hg0, Hα⟩⟩
  ihave Hα' := (pointsTo_rep_entails (c : Thread nD τ) (st0 t) g0 fullShare) $$ Hα
  rw [hg0]
  sl_rw [prog_eq t]
  iapply (bodyRun c (argM m c) (argX m c) (st0 t) (hst0 t) ((st0 t).view.rep (iblk m c 0 t)) W)
  isplitl [Hα' HK HH HA HW]
  · isplitl [Hα' HK]
    · isplitl [Hα']; · iexact Hα'
      iexact HK
    isplitl [HH]; · iexact HH
    isplitl [HA]; · iexact HA
    iexact HW
  · unfold POST; rw [prod_eq, scaled_eq]
    iintro ⟨⟨Hα, HK⟩, HH, HA, ⟨%W', HW⟩⟩
    isplitl [HK HH HA]
    · isplitl [HK]; · iexact HK
      isplitl [HH]; · iexact HH
      iexact HA
    isplitl [HW]
    · iexists W'; isplitr; · ipureintro; exact fun _ _ => Or.inl trivial
      iexact HW
    iexists _; isplitr; · ipureintro; exact View.read_rep _ _
    iexact Hα

/-! ## The run -/

/-- Core `c`'s part of the launch: the arrays the windows do not have, and the semaphores. -/
def intoΦ (c : Dev nD) : sProp 𝕄 :=
  iprop((((c : Thread nD τ).loc main_arg0) ↦{fullShare} argX m c) ∗ (((c : Thread nD τ).loc main_arg1) ↦{fullShare} argM m c)
    ∗ (((c : Thread nD τ).loc main_v0_0) ↦{fullShare} m ((c : Thread nD τ).loc main_v0_0))
    ∗ (((c : Thread nD τ).loc main_v0_1) ↦{fullShare} m ((c : Thread nD τ).loc main_v0_1)) ∗ Pipeline.ownSems0 osem c)
def outOfΦ (c : Dev nD) : sProp 𝕄 :=
  iprop((((c : Thread nD τ).loc main_arg0) ↦{fullShare} argX m c) ∗ (((c : Thread nD τ).loc main_arg1) ↦{fullShare} argM m c)
    ∗ (((c : Thread nD τ).loc main_v0_0) ↦{fullShare} outH m c) ∗ (((c : Thread nD τ).loc main_v0_1) ↦{fullShare} outA m c))
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = argX m c ∧ s.mem ((c : Thread nD τ).loc main_arg1) = argM m c
    ∧ s.mem ((c : Thread nD τ).loc main_v0_0) = outH m c ∧ s.mem ((c : Thread nD τ).loc main_v0_1) = outA m c

theorem Φ_zero (c : Dev nD) (n : ℕ) (h : n = 0) : Φ m c n
    = iprop(kept c (argM m c) (argX m c) ∗ startO c hBlk hSlot hCell ∗ startO c aBlk aSlot aCell) := if_pos h
theorem Φ_first (c : Dev nD) : (dats m 0 c).Φ 0
    = iprop(kept c (argM m c) (argX m c) ∗ startO c hBlk hSlot hCell ∗ startO c aBlk aSlot aCell) := Φ_zero m c _ rfl
theorem Φ_last (c : Dev nD) : (dats m 0 c).Φ (Fin.last cfg0.N)
    = iprop(kept c (argM m c) (argX m c) ∗ endO c hBlk hSlot hCell (prodAt m c) ∗ endO c aBlk aSlot aCell (scaledAt m c)) :=
  Φ_late m c cfg0.N (by have e : cfg0.N = 1 := N_0; omega)

set_option backward.isDefEq.respectTransparency.types false in
theorem run_main_raw : θ_run defs (onTc (τ := τ) (main (F := F))) (⟨m, fun _ => 0, ρ⟩ : MemSt nD τ sig (Elt F))
    (fun r => (∀ c : Dev nD, (∀ w : Fin cfg0.W, r.2.mem ((cfg0.win w).arr.view.loc (c : Thread nD τ)) = finalA m c w) ∧ QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := fun _ => iprop(emp))
    (hX := fun c => by
      rw [unscopedRest0_eq]
      unfold intoΦ
      iintro ⟨⟨H0, H1, H2, H3⟩, HS, -⟩; imodintro
      isplitl [H0 H1 H2 H3 HS]
      · isplitl [H0]; · iexact H0
        isplitl [H1]; · iexact H1
        isplitl [H2]; · iexact H2
        isplitl [H3]; · iexact H3
        iexact HS
      iempintro)
    (hin := fun c => by
      rw [scopedRest0_eq, Φ_first]
      unfold intoΦ kept Ring.At₀; rw [ownSems0_eq, freeM_eq]
      iintro ⟨⟨HX, HM, HH, HA, HC0, HC1, HC2, HC3, HC4, HC5, HC6, HC7⟩, HB0, HB2, HB3, HB5⟩
      isplitl [HX HM HC0 HC1 HC2 HC7 HB0 HB2]
      · isplitl [HX]; · iapply (from_eq (whole_held c main_arg0 (argX m c)).symm); iexact HX
        isplitl [HM HC0 HC1 HC2 HB0]
        · isplitl [HM]; · iapply (from_eq (m_eq c (argM m c))); iexact HM
          isplitl [HC0 HC1 HC2]
          · isplitl [HC0]; · iexact HC0
            isplitl [HC1]; · iexact HC1
            iexact HC2
          iapply (mBuf_cut c); iexact HB0
        isplitl [HB2]
        · icases HB2 with ⟨%f, HB2⟩
          iexists f; iapply (from_eq (whole_held c cc0_scoped2 f).symm); iexact HB2
        iexact HC7
      isplitl [HH HC3 HC4 HB3]
      · iapply (startO_of c hBlk hSlot hCell _ _ (h_ahead c _) (hBuf_cut c))
        isplitl [HH]; · iexact HH
        isplitl [HC3 HC4]
        · isplitl [HC3]; · iexact HC3
          iexact HC4
        iexact HB3
      iapply (startO_of c aBlk aSlot aCell _ _ (a_ahead c _) (aBuf_cut c))
      isplitl [HA]; · iexact HA
      isplitl [HC5 HC6]
      · isplitl [HC5]; · iexact HC5
        iexact HC6
      iexact HB5)
    (hout := fun c => by
      rw [scopedRest0_eq, Φ_last, ownSems0_eq]
      unfold outOfΦ kept Ring.At₀; rw [freeM_eq]
      iintro ⟨⟨HX, ⟨HM, ⟨HC0, HC1, HC2⟩, HB0⟩, HB2, HC7⟩, HH, HA⟩
      ihave HH' := (of_endO c hBlk hSlot hCell _ _ _ (h_done c _) (hBuf_join c)) $$ HH
      ihave HA' := (of_endO c aBlk aSlot aCell _ _ _ (a_done c _) (aBuf_join c)) $$ HA
      icases HH' with ⟨⟨HC3, HC4⟩, HB3, HH⟩
      icases HA' with ⟨⟨HC5, HC6⟩, HB5, HA⟩
      isplitl [HX HM HH HA]
      · isplitl [HX]; · iapply (from_eq (whole_held c main_arg0 (argX m c))); iexact HX
        isplitl [HM]; · iapply (from_eq (m_eq c (argM m c)).symm); iexact HM
        isplitl [HH]; · iexact HH
        iexact HA
      isplitl [HC0 HC1 HC2 HC3 HC4 HC5 HC6 HC7]
      · isplitl [HC0]; · iexact HC0
        isplitl [HC1]; · iexact HC1
        isplitl [HC2]; · iexact HC2
        isplitl [HC3]; · iexact HC3
        isplitl [HC4]; · iexact HC4
        isplitl [HC5]; · iexact HC5
        isplitl [HC6]; · iexact HC6
        iexact HC7
      isplitl [HB0]; · iapply (mBuf_join c); iexact HB0
      isplitl [HB2]
      · icases HB2 with ⟨%f, HB2⟩
        iexists f; iapply (from_eq (whole_held c cc0_scoped2 f)); iexact HB2
      isplitl [HB3]; · iexact HB3
      iexact HB5)
    (QY := QY m)
    (hY := fun c s' => by
      unfold outOfΦ
      iintro ⟨⟨H0, H1, H2, H3⟩, -, HSI⟩
      icombine HSI H0 gives %h0
      icombine HSI H1 gives %h1
      icombine HSI H2 gives %h2
      icombine HSI H3 gives %h3
      imodintro
      isplitr; · ipureintro; exact ⟨Buf.eq_of_forall_mem_univ h0, Buf.eq_of_forall_mem_univ h1, Buf.eq_of_forall_mem_univ h2, Buf.eq_of_forall_mem_univ h3⟩
      iexact HSI)
    (hQ := fun _ hh hz => ⟨hh, hz⟩)

/-- What a run of `main` ends in: the two results, the arguments as they were, every semaphore at zero. -/
theorem run_main : θ_run defs (onTc (τ := τ) (main (F := F))) (⟨m, fun _ => 0, ρ⟩ : MemSt nD τ sig (Elt F)) (fun r =>
    (∀ c : Dev nD, r.2.mem ((c : Thread nD τ).loc main_v0_0) = outH m c ∧ r.2.mem ((c : Thread nD τ).loc main_v0_1) = outA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c => ⟨(h.1 c).2.2.2.1, (h.1 c).2.2.2.2, (h.1 c).2.1, (h.1 c).2.2.1,
    ((h.1 c).1 0).trans ((dats (F := F) m 0 c).arrAt_in 0 rfl _)⟩, h.2⟩) (run_main_raw m ρ)

end Cert.Proof

end
-- ==== Proof.Value.lean ====
/-
  Over the extended reals the two results are the product `M X` and that product scaled: each entry of a block's product
  is the sum over `M`'s columns that the whole product has there.
-/
module

public import proofs.«01_k».proof.Proof.Run
public import proofs.«01_k».proof.Proof.Gen.ReferenceIdeal
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.SL.Sem

/-- The reference's product, -/
abbrev REFH (X : FVec Ideal Cert.ReferenceIdeal.S10000x128 .f32) (M : FVec Ideal Cert.ReferenceIdeal.S10000x10000 .f32) :
    FVec Ideal Cert.ReferenceIdeal.S10000x128 .f32 :=
  Host.dotGeneral Cert.ReferenceIdeal.dot_S10000x10000_S10000x128_S10000x128_1_0_0_1_n_n none M X
/-- and its scaled product. -/
abbrev REFA (X : FVec Ideal Cert.ReferenceIdeal.S10000x128 .f32) (M : FVec Ideal Cert.ReferenceIdeal.S10000x10000 .f32)
    (α : FVec Ideal Cert.ReferenceIdeal.S1 .f32) : FVec Ideal Cert.ReferenceIdeal.S10000x128 .f32 :=
  mulf (broadcastInDim Cert.ReferenceIdeal.S10000x128 ![0, 1] Cert.ReferenceIdeal.Gen.bcast_S1x1_S10000x128_0_1 (broadcastInDim Cert.ReferenceIdeal.S1x1 ![1] Cert.ReferenceIdeal.Gen.bcast_S1_S1x1_1 α)) (REFH X M)

/-- A block's rows of `M`, entry by entry. -/
def rowsOf (M : FVec Ideal S10000x10000 .f32) (b : Fin 25) : FVec Ideal S400x10000 .f32 := fun j => M ((rowM b).emb j)

/-- One entry of a block's product. -/
theorem prod_point (X : FVec Ideal S10000x128 .f32) (M : FVec Ideal S10000x10000 .f32) (i : S10000x128.Idx) :
    k0_pay2 (F := Ideal) (rowsOf M (blkOf i)) X (inBlk i) = REFH X M i := by
  pointwise [k0_pay2, REFH]
  blk_point [rowsOf, rowM, blkOf, inBlk]

theorem scaled_point (X : FVec Ideal S10000x128 .f32) (M : FVec Ideal S10000x10000 .f32) (α : FVec Ideal S1 .f32) (i : S10000x128.Idx) :
    scaledBlk (F := Ideal) (rowsOf M (blkOf i)) X (α one) (inBlk i) = REFA X M α i := by
  show α one * k0_pay2 (F := Ideal) (rowsOf M (blkOf i)) X (inBlk i) = α _ * REFH X M i
  rw [prod_point X M i]
  exact congrArg (fun a => α a * REFH X M i) (one_only _ _)

variable (m : (ℓ : Loc nD τ sig) → Buf (Elt Ideal) ℓ)

theorem outH_eq (c : Dev nD) : outH m c = REFH (argX m c) (argM m c) := funext fun i => prod_point (argX m c) (argM m c) i
theorem outA_eq (c : Dev nD) : outA m c = REFA (argX m c) (argM m c) (argα m c) := funext fun i => scaled_point (argX m c) (argM m c) (argα m c) i

end Cert.Proof

end
-- ==== Proof.Same.lean ====
/-
  The kernel as printed and the kernel as printed for the extended reals are the same text: their body tables and their
  `main` are equal, so a run of the one is a run of the other.
-/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

theorem same_body : Cert.Kernel.cc0__outer (F := F) = Cert.KernelIdeal.cc0__outer (F := F) := rfl
theorem same_bodies : Cert.Kernel.defs₀ (F := F) = Cert.KernelIdeal.defs₀ (F := F) := by
  funext p ℓ a
  cases p with
  | tc =>
    match ℓ, a with
    | 0, (t, s) => rfl
  | scScalar _ => rfl
  | scVector _ _ => rfl
theorem same_defs : Cert.Kernel.defs (F := F) = Cert.KernelIdeal.defs (F := F) :=
  congrArg (Pipeline.defs Cert.KernelIdeal.pcfgs) same_bodies

/-- A run of the one is a run of the other. -/
theorem run_same (m) (ρ) (Q : PUnit × MemSt Cert.KernelIdeal.nD Cert.KernelIdeal.τ Cert.KernelIdeal.sig (Elt F) → Prop)
    (h : θ_run Cert.KernelIdeal.defs (onTc (τ := Cert.KernelIdeal.τ) (Cert.KernelIdeal.main (F := F))) ⟨m, fun _ => 0, ρ⟩ Q) :
    θ_run Cert.Kernel.defs (onTc (τ := Cert.Kernel.τ) (Cert.Kernel.main (F := F))) ⟨m, fun _ => 0, ρ⟩ Q :=
  (congrArg (fun D => θ_run D (onTc (τ := Cert.KernelIdeal.τ) (Cert.KernelIdeal.main (F := F))) ⟨m, fun _ => 0, ρ⟩ Q) same_defs).mpr h

end Cert.Proof

end
-- ==== Proof.lean ====
/-
  The claims: the run of `main` (Proof/Run.lean) gives both frames and the two results; Proof/Value.lean says that over
  the extended reals these are the reference's terms.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import proofs.«01_k».proof.Proof.Same
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem frame_kernel : Cert.quiescent_Kernel := fun m ρ _ => run_same (F := Bits) m ρ _ <|
  (θ_run Cert.KernelIdeal.defs _ _).mono (fun _ h => ⟨fun c => (h.1 c).2.2, h.2⟩) (run_main (F := Bits) m ρ)

theorem frame_ideal : Cert.quiescent_KernelIdeal := fun m ρ _ =>
  (θ_run Cert.KernelIdeal.defs _ _).mono (fun _ h => ⟨fun c => (h.1 c).2.2, h.2⟩) (run_main (F := Ideal) m ρ)

theorem frame_reference : Cert.quiescent_ReferenceIdeal := by
  intro m g _
  hlo_run
  · exact fun _ => ⟨trivial, trivial, trivial⟩
  · exact sem_eq_zero_of_no_sems (by decide) r.2

/-- The run's results and arguments alone. -/
theorem run_values (m : (ℓ : Loc Cert.KernelIdeal.nD Cert.KernelIdeal.τ Cert.KernelIdeal.sig) → Buf (Elt Ideal) ℓ) (ρ) :
    θ_run Cert.KernelIdeal.defs (onTc (τ := Cert.KernelIdeal.τ) (Cert.KernelIdeal.main (F := Ideal)))
      (⟨m, fun _ => 0, ρ⟩ : MemSt Cert.KernelIdeal.nD Cert.KernelIdeal.τ Cert.KernelIdeal.sig (Elt Ideal)) (fun r => ∀ c : Dev Cert.KernelIdeal.nD,
        r.2.mem ((c.tc : Thread Cert.KernelIdeal.nD Cert.KernelIdeal.τ).loc Cert.KernelIdeal.main_v0_0) = outH m c
        ∧ r.2.mem ((c.tc : Thread Cert.KernelIdeal.nD Cert.KernelIdeal.τ).loc Cert.KernelIdeal.main_v0_1) = outA m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h => h.1) (run_main (F := Ideal) m ρ)

theorem algebraic : Cert.algebraic_KernelIdeal_ReferenceIdeal := by
  pair_intro
  · run_from run_values m g
  · hlo_run
    · exact (outH_eq m c).symm
    · exact (outA_eq m c).symm

theorem claim : Cert.Claim :=
  ⟨Cert.Kernel.Gen.facts, Cert.KernelIdeal.Gen.facts, Cert.ReferenceIdeal.Gen.facts, frame_kernel, frame_ideal, frame_reference, trivial, algebraic⟩

end Cert.Proof

end
